-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_tie [hPre_finite_and_no_tie : Cert.Pre_finite_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_tie [hPre_finite_and_no_tie : Cert.Pre_finite_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_no_tie [hKernelIdeal : Cert.KernelIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_no_tie [hReferenceIdeal : Cert.ReferenceIdeal.Facts] [hPre_finite_and_no_tie : Cert.Pre_finite_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_no_tie [hKernelIdeal : Cert.KernelIdeal.Facts] [hReferenceIdeal : Cert.ReferenceIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_no_tie : Cert.Pre_finite_and_no_tie.Facts),
    quiescent_Kernel (hKernel := hKernel)
    ∧ quiescent_KernelIdeal (hKernelIdeal := hKernelIdeal)
    ∧ quiescent_KernelIdeal_pre_finite_and_no_tie (hKernelIdeal := hKernelIdeal) (hPre_finite_and_no_tie := hPre_finite_and_no_tie)
    ∧ quiescent_ReferenceIdeal (hReferenceIdeal := hReferenceIdeal)
    ∧ quiescent_ReferenceIdeal_pre_finite_and_no_tie (hReferenceIdeal := hReferenceIdeal) (hPre_finite_and_no_tie := hPre_finite_and_no_tie)
    ∧ preserves_Kernel_KernelIdeal
    ∧ algebraic_KernelIdeal_ReferenceIdeal_pre_finite_and_no_tie (hKernelIdeal := hKernelIdeal) (hReferenceIdeal := hReferenceIdeal) (hPre_finite_and_no_tie := hPre_finite_and_no_tie)
-- ==== Pre_finite_and_no_tie.lean ====
abbrev S4x4096x2048 : Shape := ⟨3, ![4, 4096, 2048]⟩
abbrev S2048x1024 : Shape := ⟨2, ![2048, 1024]⟩
abbrev S4x16x64 : Shape := ⟨3, ![4, 16, 64]⟩
abbrev S4x4096x1024 : Shape := ⟨3, ![4, 4096, 1024]⟩
abbrev S4x4096x16x64 : Shape := ⟨4, ![4, 4096, 16, 64]⟩
abbrev S4x1024x4x16x64 : Shape := ⟨5, ![4, 1024, 4, 16, 64]⟩
abbrev S1x1x4x16x64 : Shape := ⟨5, ![1, 1, 4, 16, 64]⟩
abbrev S_ : Shape := ⟨0, ![]⟩
abbrev S4x1024x16x64 : Shape := ⟨4, ![4, 1024, 16, 64]⟩
abbrev S4x1024x1x16x64 : Shape := ⟨5, ![4, 1024, 1, 16, 64]⟩
abbrev S4x1024x16 : Shape := ⟨3, ![4, 1024, 16]⟩
abbrev S4x1024x16x1 : Shape := ⟨4, ![4, 1024, 16, 1]⟩
abbrev S1024 : Shape := ⟨1, ![1024]⟩
abbrev S4x4096x16 : Shape := ⟨3, ![4, 4096, 16]⟩
abbrev S4x4096x16x1 : Shape := ⟨4, ![4, 4096, 16, 1]⟩
abbrev S1x1x1024 : Shape := ⟨3, ![1, 1, 1024]⟩
abbrev S4096 : Shape := ⟨1, ![4096]⟩
abbrev S1x4096x1 : Shape := ⟨3, ![1, 4096, 1]⟩
abbrev S1x4096x1024 : Shape := ⟨3, ![1, 4096, 1024]⟩
abbrev S4x4096x9 : Shape := ⟨3, ![4, 4096, 9]⟩
abbrev S4x4096x8 : Shape := ⟨3, ![4, 4096, 8]⟩
abbrev S4x4096 : Shape := ⟨2, ![4, 4096]⟩
abbrev S4x4096x1 : Shape := ⟨3, ![4, 4096, 1]⟩

class Facts : Prop where
  shapeCasts_S4x4096x1024_S4x4096x16x64 : S4x4096x1024.ShapeCasts S4x4096x16x64
  shapeCasts_S4x4096x16x64_S4x1024x4x16x64 : S4x4096x16x64.ShapeCasts S4x1024x4x16x64
  bcast_S4x16x64_S1x1x4x16x64_2_3_4 : S4x16x64.BroadcastsInDim S1x1x4x16x64 (![2, 3, 4] : Fin 3 → Fin S1x1x4x16x64.rank)
  bcast_S1x1x4x16x64_S4x1024x4x16x64_0_1_2_3_4 : S1x1x4x16x64.BroadcastsInDim S4x1024x4x16x64 (![0, 1, 2, 3, 4] : Fin 5 → Fin S4x1024x4x16x64.rank)
  reducesTo_S4x1024x4x16x64_S4x1024x16x64_d2 : S4x1024x4x16x64.ReducesTo [2] S4x1024x16x64
  h_S_ : 0 < S_.numel
  bcast_S_S4x1024x16x64 : S_.BroadcastsInDim S4x1024x16x64 (![] : Fin 0 → Fin S4x1024x16x64.rank)
  bcast_S4x1024x16x64_S4x1024x1x16x64_0_1_3_4 : S4x1024x16x64.BroadcastsInDim S4x1024x1x16x64 (![0, 1, 3, 4] : Fin 4 → Fin S4x1024x1x16x64.rank)
  bcast_S4x1024x1x16x64_S4x1024x4x16x64_0_1_2_3_4 : S4x1024x1x16x64.BroadcastsInDim S4x1024x4x16x64 (![0, 1, 2, 3, 4] : Fin 5 → Fin S4x1024x4x16x64.rank)
  reducesTo_S4x1024x16x64_S4x1024x16_d3 : S4x1024x16x64.ReducesTo [3] S4x1024x16
  bcast_S4x1024x16_S4x1024x16x1_0_1_2 : S4x1024x16.BroadcastsInDim S4x1024x16x1 (![0, 1, 2] : Fin 3 → Fin S4x1024x16x1.rank)
  bcast_S_S4x1024x16x1 : S_.BroadcastsInDim S4x1024x16x1 (![] : Fin 0 → Fin S4x1024x16x1.rank)
  bcast_S4x1024x16x1_S4x1024x16x64_0_1_2_3 : S4x1024x16x1.BroadcastsInDim S4x1024x16x64 (![0, 1, 2, 3] : Fin 4 → Fin S4x1024x16x64.rank)
  bcast_S_S1024 : S_.BroadcastsInDim S1024 (![] : Fin 0 → Fin S1024.rank)
  reducesTo_S4x4096x16x64_S4x4096x16_d3 : S4x4096x16x64.ReducesTo [3] S4x4096x16
  bcast_S4x4096x16_S4x4096x16x1_0_1_2 : S4x4096x16.BroadcastsInDim S4x4096x16x1 (![0, 1, 2] : Fin 3 → Fin S4x4096x16x1.rank)
  bcast_S_S4x4096x16x1 : S_.BroadcastsInDim S4x4096x16x1 (![] : Fin 0 → Fin S4x4096x16x1.rank)
  bcast_S4x4096x16x1_S4x4096x16x64_0_1_2_3 : S4x4096x16x1.BroadcastsInDim S4x4096x16x64 (![0, 1, 2, 3] : Fin 4 → Fin S4x4096x16x64.rank)
  bcast_S1024_S1x1x1024_2 : S1024.BroadcastsInDim S1x1x1024 (![2] : Fin 1 → Fin S1x1x1024.rank)
  bcast_S4096_S1x4096x1_1 : S4096.BroadcastsInDim S1x4096x1 (![1] : Fin 1 → Fin S1x4096x1.rank)
  bcast_S1x1x1024_S1x4096x1024_0_1_2 : S1x1x1024.BroadcastsInDim S1x4096x1024 (![0, 1, 2] : Fin 3 → Fin S1x4096x1024.rank)
  bcast_S1x4096x1_S1x4096x1024_0_1_2 : S1x4096x1.BroadcastsInDim S1x4096x1024 (![0, 1, 2] : Fin 3 → Fin S1x4096x1024.rank)
  bcast_S1x4096x1024_S4x4096x1024_0_1_2 : S1x4096x1024.BroadcastsInDim S4x4096x1024 (![0, 1, 2] : Fin 3 → Fin S4x4096x1024.rank)
  bcast_S_S4x4096x1024 : S_.BroadcastsInDim S4x4096x1024 (![] : Fin 0 → Fin S4x4096x1024.rank)
  sliceFits_S4x4096x1024_S4x4096x9 : S4x4096x1024.Slices (fun _ => 0) S4x4096x9
  slices_S4x4096x9_S4x4096x8_0_0_0 : S4x4096x9.Slices ![0, 0, 0] S4x4096x8
  slices_S4x4096x9_S4x4096x8_0_0_1 : S4x4096x9.Slices ![0, 0, 1] S4x4096x8
  reducesTo_S4x4096x8_S4x4096_d2 : S4x4096x8.ReducesTo [2] S4x4096
  slices_S4x4096x9_S4x4096x1_0_0_8 : S4x4096x9.Slices ![0, 0, 8] S4x4096x1
  shapeCasts_S4x4096x1_S4x4096 : S4x4096x1.ShapeCasts S4x4096
  bcast_S_S4x4096 : S_.BroadcastsInDim S4x4096 (![] : Fin 0 → Fin S4x4096.rank)
  bcast_S_S4x4096x2048 : S_.BroadcastsInDim S4x4096x2048 (![] : Fin 0 → Fin S4x4096x2048.rank)
  bcast_S_S2048x1024 : S_.BroadcastsInDim S2048x1024 (![] : Fin 0 → Fin S2048x1024.rank)
  bcast_S_S4x16x64 : S_.BroadcastsInDim S4x16x64 (![] : Fin 0 → Fin S4x16x64.rank)
  dot_S4x4096x2048_S2048x1024_S4x4096x1024_2_0_01_1_n_n_wf : DotDims.WF S4x4096x2048 S2048x1024 S4x4096x1024 [2] [0] [0, 1] [1] [] []
  dot_S4x4096x16x64_S4x1024x16x64_S4x4096x1024_32_32_1_1_0_0_wf : DotDims.WF S4x4096x16x64 S4x1024x16x64 S4x4096x1024 [3, 2] [3, 2] [1] [1] [0] [0]

variable [Facts]

def dot_S4x4096x2048_S2048x1024_S4x4096x1024_2_0_01_1_n_n : DotDims S4x4096x2048 S2048x1024 S4x4096x1024 where
  lhsContracting := [2]
  rhsContracting := [0]
  lhsNonContracting := [0, 1]
  rhsNonContracting := [1]
  lhsBatch := []
  rhsBatch := []
  wf := dot_S4x4096x2048_S2048x1024_S4x4096x1024_2_0_01_1_n_n_wf
def dot_S4x4096x16x64_S4x1024x16x64_S4x4096x1024_32_32_1_1_0_0 : DotDims S4x4096x16x64 S4x1024x16x64 S4x4096x1024 where
  lhsContracting := [3, 2]
  rhsContracting := [3, 2]
  lhsNonContracting := [1]
  rhsNonContracting := [1]
  lhsBatch := [0]
  rhsBatch := [0]
  wf := dot_S4x4096x16x64_S4x1024x16x64_S4x4096x1024_32_32_1_1_0_0_wf
def fn_where {F : FTy → Type} [FloatOps F] (arg0 : IVec S1x4096x1024 1) (arg1 : FVec F S4x4096x1024 .f32) (arg2 : FVec F S_ .f32) : FVec F S4x4096x1024 .f32 :=
  let v0 : FVec F S_ .f32 := id arg2
  let v1 : IVec S4x4096x1024 1 := broadcastInDim S4x4096x1024 ![0, 1, 2] bcast_S1x4096x1024_S4x4096x1024_0_1_2 arg0
  let v2 : FVec F S4x4096x1024 .f32 := broadcastInDim S4x4096x1024 ![] bcast_S_S4x4096x1024 v0
  let v3 : FVec F S4x4096x1024 .f32 := select v1 arg1 v2
  v3

def fn_part4 {F : FTy → Type} [FloatOps F] (main_v62 : IVec S4x4096 1) (main_v66 : IVec S4x4096 1) (main_v69 : IVec S4x4096x2048 1) (main_v72 : IVec S2048x1024 1) (main_v73 : FVec F S4x16x64 .f32) (main_v74 : FVec F S4x16x64 .f32) : IVec S4x4096x2048 1 × IVec S2048x1024 1 × IVec S4x16x64 1 × IVec S4x4096 1 :=
  let main_v75 : IVec S4x16x64 1 := cmpf .olt main_v73 main_v74
  let main_v76 : IVec S4x4096 1 := ori main_v62 main_v66
  (main_v69, main_v72, main_v75, main_v76)

def fn_part3 {F : FTy → Type} [FloatOps F] (main_arg0 : FVec F S4x4096x2048 .f32) (main_arg3 : FVec F S2048x1024 .f32) (main_arg4 : FVec F S4x16x64 .f32) (main_v56 : IVec S1x4096x1024 1) (main_v57 : FVec F S4x4096x1024 .f32) (main_cst_11 : FVec F S_ .f32) : IVec S4x4096x2048 1 × IVec S2048x1024 1 × IVec S4x16x64 1 × IVec S4x4096 1 :=
  let main_v58 : FVec F S4x4096x1024 .f32 := fn_where (F := F) main_v56 main_v57 main_cst_11
  let main_values : FVec F S4x4096x9 .f32 := (fun x => (Host.topK S4x4096x9 2 (FloatOps.cmpfTotal .gt) x sliceFits_S4x4096x1024_S4x4096x9).1) main_v58
  let main_indices : IVec S4x4096x9 32 := (fun x => (Host.topK S4x4096x9 2 (FloatOps.cmpfTotal .gt) x sliceFits_S4x4096x1024_S4x4096x9).2) main_v58
  let main_v59 : FVec F S4x4096x8 .f32 := (extractStridedSlice S4x4096x8 ![0, 0, 0] · slices_S4x4096x9_S4x4096x8_0_0_0) main_values
  let main_v60 : FVec F S4x4096x8 .f32 := (extractStridedSlice S4x4096x8 ![0, 0, 1] · slices_S4x4096x9_S4x4096x8_0_0_1) main_values
  let main_v61 : IVec S4x4096x8 1 := cmpf .ogt main_v59 main_v60
  let main_c_12 : IVec S_ 1 := constantI S_ 1 1#1
  let main_v62 : IVec S4x4096 1 := (fun x v => Host.reduce IntOp.andi x v reducesTo_S4x4096x8_S4x4096_d2 h_S_) main_v61 main_c_12
  let main_v63 : FVec F S4x4096x1 .f32 := (extractStridedSlice S4x4096x1 ![0, 0, 8] · slices_S4x4096x9_S4x4096x1_0_0_8) main_values
  let main_v64 : FVec F S4x4096 .f32 := shapeCast S4x4096 main_v63 shapeCasts_S4x4096x1_S4x4096
  let main_cst_13 : FVec F S_ .f32 := constant S_ .f32 0xFF800000#32
  let main_v65 : FVec F S4x4096 .f32 := broadcastInDim S4x4096 ![] bcast_S_S4x4096 main_cst_13
  let main_v66 : IVec S4x4096 1 := cmpf .oeq main_v64 main_v65
  let main_v67 : FVec F S4x4096x2048 .f32 := Host.absf main_arg0
  let main_cst_14 : FVec F S_ .f32 := constant S_ .f32 0x7F800000#32
  let main_v68 : FVec F S4x4096x2048 .f32 := broadcastInDim S4x4096x2048 ![] bcast_S_S4x4096x2048 main_cst_14
  let main_v69 : IVec S4x4096x2048 1 := cmpf .olt main_v67 main_v68
  let main_v70 : FVec F S2048x1024 .f32 := Host.absf main_arg3
  let main_cst_15 : FVec F S_ .f32 := constant S_ .f32 0x7F800000#32
  let main_v71 : FVec F S2048x1024 .f32 := broadcastInDim S2048x1024 ![] bcast_S_S2048x1024 main_cst_15
  let main_v72 : IVec S2048x1024 1 := cmpf .olt main_v70 main_v71
  let main_v73 : FVec F S4x16x64 .f32 := Host.absf main_arg4
  let main_cst_16 : FVec F S_ .f32 := constant S_ .f32 0x7F800000#32
  let main_v74 : FVec F S4x16x64 .f32 := broadcastInDim S4x16x64 ![] bcast_S_S4x16x64 main_cst_16
  fn_part4 (F := F) main_v62 main_v66 main_v69 main_v72 main_v73 main_v74

def fn_part2 {F : FTy → Type} [FloatOps F] (main_arg0 : FVec F S4x4096x2048 .f32) (main_arg1 : FVec F S2048x1024 .f32) (main_arg3 : FVec F S2048x1024 .f32) (main_arg4 : FVec F S4x16x64 .f32) (main_v31 : FVec F S4x1024x16x64 .f32) (main_v36 : IVec S1024 32) (main_v37 : IVec S1024 32) : IVec S4x4096x2048 1 × IVec S2048x1024 1 × IVec S4x16x64 1 × IVec S4x4096 1 :=
  let main_v38 : IVec S1024 32 := minsi main_v36 main_v37
  let main_v39 : FVec F S4x4096x1024 .f32 := (fun l r => Host.dotGeneral dot_S4x4096x2048_S2048x1024_S4x4096x1024_2_0_01_1_n_n none l r) main_arg0 main_arg1
  let main_v40 : FVec F S4x4096x16x64 .f32 := shapeCast S4x4096x16x64 main_v39 shapeCasts_S4x4096x1024_S4x4096x16x64
  let main_v41 : FVec F S4x4096x16x64 .f32 := mulf main_v40 main_v40
  let main_cst_8 : FVec F S_ .f32 := constant S_ .f32 0x00000000#32
  let main_v42 : FVec F S4x4096x16 .f32 := (fun x v => Host.reduceAdd x v reducesTo_S4x4096x16x64_S4x4096x16_d3 h_S_) main_v41 main_cst_8
  let main_v43 : FVec F S4x4096x16x1 .f32 := broadcastInDim S4x4096x16x1 ![0, 1, 2] bcast_S4x4096x16_S4x4096x16x1_0_1_2 main_v42
  let main_cst_9 : FVec F S_ .f32 := constant S_ .f32 0x42800000#32
  let main_v44 : FVec F S4x4096x16x1 .f32 := broadcastInDim S4x4096x16x1 ![] bcast_S_S4x4096x16x1 main_cst_9
  let main_v45 : FVec F S4x4096x16x1 .f32 := Host.divf main_v43 main_v44
  let main_cst_10 : FVec F S_ .f32 := constant S_ .f32 0x358637BD#32
  let main_v46 : FVec F S4x4096x16x1 .f32 := broadcastInDim S4x4096x16x1 ![] bcast_S_S4x4096x16x1 main_cst_10
  let main_v47 : FVec F S4x4096x16x1 .f32 := addf main_v45 main_v46
  let main_v48 : FVec F S4x4096x16x1 .f32 := Host.rsqrt main_v47
  let main_v49 : FVec F S4x4096x16x64 .f32 := broadcastInDim S4x4096x16x64 ![0, 1, 2, 3] bcast_S4x4096x16x1_S4x4096x16x64_0_1_2_3 main_v48
  let main_v50 : FVec F S4x4096x16x64 .f32 := mulf main_v40 main_v49
  let main_v51 : IVec S1x1x1024 32 := broadcastInDim S1x1x1024 ![2] bcast_S1024_S1x1x1024_2 main_v38
  let main_v52 : IVec S4096 32 := iotaInDim S4096 32 0
  let main_v53 : IVec S1x4096x1 32 := broadcastInDim S1x4096x1 ![1] bcast_S4096_S1x4096x1_1 main_v52
  let main_v54 : IVec S1x4096x1024 32 := broadcastInDim S1x4096x1024 ![0, 1, 2] bcast_S1x1x1024_S1x4096x1024_0_1_2 main_v51
  let main_v55 : IVec S1x4096x1024 32 := broadcastInDim S1x4096x1024 ![0, 1, 2] bcast_S1x4096x1_S1x4096x1024_0_1_2 main_v53
  let main_v56 : IVec S1x4096x1024 1 := cmpi .sle main_v54 main_v55
  let main_v57 : FVec F S4x4096x1024 .f32 := (fun l r => Host.dotGeneral dot_S4x4096x16x64_S4x1024x16x64_S4x4096x1024_32_32_1_1_0_0 none l r) main_v50 main_v31
  let main_cst_11 : FVec F S_ .f32 := constant S_ .f32 0xFF800000#32
  fn_part3 (F := F) main_arg0 main_arg3 main_arg4 main_v56 main_v57 main_cst_11

def fn_part1 {F : FTy → Type} [FloatOps F] (main_arg0 : FVec F S4x4096x2048 .f32) (main_arg1 : FVec F S2048x1024 .f32) (main_arg3 : FVec F S2048x1024 .f32) (main_arg4 : FVec F S4x16x64 .f32) (main_v20 : FVec F S4x1024x4x16x64 .f32) : IVec S4x4096x2048 1 × IVec S2048x1024 1 × IVec S4x16x64 1 × IVec S4x4096 1 :=
  let main_cst_2 : FVec F S_ .f32 := constant S_ .f32 0x00000000#32
  let main_v21 : FVec F S4x1024x16x64 .f32 := (fun x v => Host.reduceAdd x v reducesTo_S4x1024x4x16x64_S4x1024x16x64_d2 h_S_) main_v20 main_cst_2
  let main_v22 : FVec F S4x1024x16x64 .f32 := mulf main_v21 main_v21
  let main_cst_3 : FVec F S_ .f32 := constant S_ .f32 0x00000000#32
  let main_v23 : FVec F S4x1024x16 .f32 := (fun x v => Host.reduceAdd x v reducesTo_S4x1024x16x64_S4x1024x16_d3 h_S_) main_v22 main_cst_3
  let main_v24 : FVec F S4x1024x16x1 .f32 := broadcastInDim S4x1024x16x1 ![0, 1, 2] bcast_S4x1024x16_S4x1024x16x1_0_1_2 main_v23
  let main_cst_4 : FVec F S_ .f32 := constant S_ .f32 0x42800000#32
  let main_v25 : FVec F S4x1024x16x1 .f32 := broadcastInDim S4x1024x16x1 ![] bcast_S_S4x1024x16x1 main_cst_4
  let main_v26 : FVec F S4x1024x16x1 .f32 := Host.divf main_v24 main_v25
  let main_cst_5 : FVec F S_ .f32 := constant S_ .f32 0x358637BD#32
  let main_v27 : FVec F S4x1024x16x1 .f32 := broadcastInDim S4x1024x16x1 ![] bcast_S_S4x1024x16x1 main_cst_5
  let main_v28 : FVec F S4x1024x16x1 .f32 := addf main_v26 main_v27
  let main_v29 : FVec F S4x1024x16x1 .f32 := Host.rsqrt main_v28
  let main_v30 : FVec F S4x1024x16x64 .f32 := broadcastInDim S4x1024x16x64 ![0, 1, 2, 3] bcast_S4x1024x16x1_S4x1024x16x64_0_1_2_3 main_v29
  let main_v31 : FVec F S4x1024x16x64 .f32 := mulf main_v21 main_v30
  let main_v32 : IVec S1024 32 := iotaInDim S1024 32 0
  let main_c : IVec S_ 32 := constantI S_ 32 4#32
  let main_v33 : IVec S1024 32 := broadcastInDim S1024 ![] bcast_S_S1024 main_c
  let main_v34 : IVec S1024 32 := muli main_v33 main_v32
  let main_c_6 : IVec S_ 32 := constantI S_ 32 3#32
  let main_v35 : IVec S1024 32 := broadcastInDim S1024 ![] bcast_S_S1024 main_c_6
  let main_v36 : IVec S1024 32 := addi main_v35 main_v34
  let main_c_7 : IVec S_ 32 := constantI S_ 32 4095#32
  let main_v37 : IVec S1024 32 := broadcastInDim S1024 ![] bcast_S_S1024 main_c_7
  fn_part2 (F := F) main_arg0 main_arg1 main_arg3 main_arg4 main_v31 main_v36 main_v37

def fn {F : FTy → Type} [FloatOps F] (main_arg0 : FVec F S4x4096x2048 .f32) (main_arg1 : FVec F S2048x1024 .f32) (main_arg2 : FVec F S2048x1024 .f32) (main_arg3 : FVec F S2048x1024 .f32) (main_arg4 : FVec F S4x16x64 .f32) : IVec S4x4096x2048 1 × IVec S2048x1024 1 × IVec S4x16x64 1 × IVec S4x4096 1 :=
  let main_v0 : FVec F S4x4096x1024 .f32 := (fun l r => Host.dotGeneral dot_S4x4096x2048_S2048x1024_S4x4096x1024_2_0_01_1_n_n none l r) main_arg0 main_arg2
  let main_v1 : FVec F S4x4096x16x64 .f32 := shapeCast S4x4096x16x64 main_v0 shapeCasts_S4x4096x1024_S4x4096x16x64
  let main_v2 : FVec F S4x4096x1024 .f32 := (fun l r => Host.dotGeneral dot_S4x4096x2048_S2048x1024_S4x4096x1024_2_0_01_1_n_n none l r) main_arg0 main_arg3
  let main_v3 : FVec F S4x4096x16x64 .f32 := shapeCast S4x4096x16x64 main_v2 shapeCasts_S4x4096x1024_S4x4096x16x64
  let main_v4 : FVec F S4x1024x4x16x64 .f32 := shapeCast S4x1024x4x16x64 main_v1 shapeCasts_S4x4096x16x64_S4x1024x4x16x64
  let main_v5 : FVec F S4x1024x4x16x64 .f32 := shapeCast S4x1024x4x16x64 main_v3 shapeCasts_S4x4096x16x64_S4x1024x4x16x64
  let main_v6 : FVec F S1x1x4x16x64 .f32 := broadcastInDim S1x1x4x16x64 ![2, 3, 4] bcast_S4x16x64_S1x1x4x16x64_2_3_4 main_arg4
  let main_v7 : FVec F S4x1024x4x16x64 .f32 := broadcastInDim S4x1024x4x16x64 ![0, 1, 2, 3, 4] bcast_S1x1x4x16x64_S4x1024x4x16x64_0_1_2_3_4 main_v6
  let main_v8 : FVec F S4x1024x4x16x64 .f32 := addf main_v5 main_v7
  let main_cst : FVec F S_ .f32 := constant S_ .f32 0xFF800000#32
  let main_v9 : FVec F S4x1024x16x64 .f32 := (fun x v => Host.reduce FloatOps.maximumf x v reducesTo_S4x1024x4x16x64_S4x1024x16x64_d2 h_S_) main_v8 main_cst
  let main_cst_0 : FVec F S_ .f32 := constant S_ .f32 0xFF800000#32
  let main_v10 : FVec F S4x1024x16x64 .f32 := broadcastInDim S4x1024x16x64 ![] bcast_S_S4x1024x16x64 main_cst_0
  let main_v11 : FVec F S4x1024x16x64 .f32 := maximumf main_v10 main_v9
  let main_v12 : FVec F S4x1024x1x16x64 .f32 := broadcastInDim S4x1024x1x16x64 ![0, 1, 3, 4] bcast_S4x1024x16x64_S4x1024x1x16x64_0_1_3_4 main_v11
  let main_v13 : FVec F S4x1024x4x16x64 .f32 := broadcastInDim S4x1024x4x16x64 ![0, 1, 2, 3, 4] bcast_S4x1024x1x16x64_S4x1024x4x16x64_0_1_2_3_4 main_v12
  let main_v14 : FVec F S4x1024x4x16x64 .f32 := subf main_v8 main_v13
  let main_v15 : FVec F S4x1024x4x16x64 .f32 := Host.exp main_v14
  let main_cst_1 : FVec F S_ .f32 := constant S_ .f32 0x00000000#32
  let main_v16 : FVec F S4x1024x16x64 .f32 := (fun x v => Host.reduceAdd x v reducesTo_S4x1024x4x16x64_S4x1024x16x64_d2 h_S_) main_v15 main_cst_1
  let main_v17 : FVec F S4x1024x1x16x64 .f32 := broadcastInDim S4x1024x1x16x64 ![0, 1, 3, 4] bcast_S4x1024x16x64_S4x1024x1x16x64_0_1_3_4 main_v16
  let main_v18 : FVec F S4x1024x4x16x64 .f32 := broadcastInDim S4x1024x4x16x64 ![0, 1, 2, 3, 4] bcast_S4x1024x1x16x64_S4x1024x4x16x64_0_1_2_3_4 main_v17
  let main_v19 : FVec F S4x1024x4x16x64 .f32 := Host.divf main_v15 main_v18
  let main_v20 : FVec F S4x1024x4x16x64 .f32 := mulf main_v4 main_v19
  fn_part1 (F := F) main_arg0 main_arg1 main_arg3 main_arg4 main_v20
-- ==== Kernel.lean ====
abbrev S4x4096x2048 : Shape := ⟨3, ![4, 4096, 2048]⟩
abbrev S2048x1024 : Shape := ⟨2, ![2048, 1024]⟩
abbrev S4x16x64 : Shape := ⟨3, ![4, 16, 64]⟩
abbrev S4x1024 : Shape := ⟨2, ![4, 1024]⟩
abbrev S1x4x1x1024 : Shape := ⟨4, ![1, 4, 1, 1024]⟩
abbrev S128x4x1x1024 : Shape := ⟨4, ![128, 4, 1, 1024]⟩
abbrev S512x1024 : Shape := ⟨2, ![512, 1024]⟩
abbrev S4x4096x1024 : Shape := ⟨3, ![4, 4096, 1024]⟩
abbrev S4x1024x1024 : Shape := ⟨3, ![4, 1024, 1024]⟩
abbrev S1x512x2048 : Shape := ⟨3, ![1, 512, 2048]⟩
abbrev S1x512x1024 : Shape := ⟨3, ![1, 512, 1024]⟩
abbrev S1x128x1024 : Shape := ⟨3, ![1, 128, 1024]⟩
abbrev S512x2048 : Shape := ⟨2, ![512, 2048]⟩
abbrev S1024x16 : Shape := ⟨2, ![1024, 16]⟩
abbrev S512x16 : Shape := ⟨2, ![512, 16]⟩
abbrev S16x1024 : Shape := ⟨2, ![16, 1024]⟩
abbrev S1 : Shape := ⟨1, ![1]⟩
abbrev S1x1x1 : Shape := ⟨3, ![1, 1, 1]⟩
abbrev S64x256 : Shape := ⟨2, ![64, 256]⟩
abbrev S256x2048 : Shape := ⟨2, ![256, 2048]⟩
abbrev S64x2048 : Shape := ⟨2, ![64, 2048]⟩
abbrev S64x1024 : Shape := ⟨2, ![64, 1024]⟩
abbrev S128x1024 : Shape := ⟨2, ![128, 1024]⟩
abbrev S128x16 : Shape := ⟨2, ![128, 16]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩

abbrev nBuf : Space → Nat
  | .hbm => 29
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S4x16x64, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S4x1024, .f32⟩
  | .hbm, ⟨9, _⟩ => ⟨S1x4x1x1024, .f32⟩
  | .hbm, ⟨10, _⟩ => ⟨S128x4x1x1024, .f32⟩
  | .hbm, ⟨11, _⟩ => ⟨S512x1024, .f32⟩
  | .hbm, ⟨12, _⟩ => ⟨S4x4096x1024, .bf16⟩
  | .hbm, ⟨13, _⟩ => ⟨S4x1024x1024, .bf16⟩
  | .hbm, ⟨14, _⟩ => ⟨S4x4096x1024, .i32⟩
  | .hbm, ⟨15, _⟩ => ⟨S_, .i32⟩
  | .hbm, ⟨16, _⟩ => ⟨S4x4096x1024, .i32⟩
  | .hbm, ⟨17, _⟩ => ⟨S4x4096x1024, .i1⟩
  | .hbm, ⟨18, _⟩ => ⟨S4x4096x1024, .i1⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i32⟩
  | .local _ .vmem, ⟨0, _⟩ => ⟨S1x512x2048, .f32⟩
  | .local _ .vmem, ⟨1, _⟩ => ⟨S1x512x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .i32⟩
  | .local _ .vmem, ⟨15, _⟩ => ⟨S1x1024x1024, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S4x4096x2048 : Shape := ⟨3, ![4, 4096, 2048]⟩
abbrev S2048x1024 : Shape := ⟨2, ![2048, 1024]⟩
abbrev S4x16x64 : Shape := ⟨3, ![4, 16, 64]⟩
abbrev S4x4096x1024 : Shape := ⟨3, ![4, 4096, 1024]⟩
abbrev S4x4096x16x64 : Shape := ⟨4, ![4, 4096, 16, 64]⟩
abbrev S4x1024x4x16x64 : Shape := ⟨5, ![4, 1024, 4, 16, 64]⟩
abbrev S1x1x4x16x64 : Shape := ⟨5, ![1, 1, 4, 16, 64]⟩
abbrev S_ : Shape := ⟨0, ![]⟩
abbrev S4x1024x16x64 : Shape := ⟨4, ![4, 1024, 16, 64]⟩
abbrev S4x1024x1x16x64 : Shape := ⟨5, ![4, 1024, 1, 16, 64]⟩
abbrev S4x1024x16 : Shape := ⟨3, ![4, 1024, 16]⟩
abbrev S4x1024x16x1 : Shape := ⟨4, ![4, 1024, 16, 1]⟩
abbrev S1024 : Shape := ⟨1, ![1024]⟩
abbrev S4x4096x16 : Shape := ⟨3, ![4, 4096, 16]⟩
abbrev S4x4096x16x1 : Shape := ⟨4, ![4, 4096, 16, 1]⟩
abbrev S1x1x1024 : Shape := ⟨3, ![1, 1, 1024]⟩
abbrev S4096 : Shape := ⟨1, ![4096]⟩
abbrev S1x4096x1 : Shape := ⟨3, ![1, 4096, 1]⟩
abbrev S1x4096x1024 : Shape := ⟨3, ![1, 4096, 1024]⟩
abbrev S4x16x4096x1024 : Shape := ⟨4, ![4, 16, 4096, 1024]⟩
abbrev S4x4096x8 : Shape := ⟨3, ![4, 4096, 8]⟩
abbrev S4 : Shape := ⟨1, ![4]⟩
abbrev S4x1x1 : Shape := ⟨3, ![4, 1, 1]⟩
abbrev S4x4096x8x1 : Shape := ⟨4, ![4, 4096, 8, 1]⟩
abbrev S4x4096x8x3 : Shape := ⟨4, ![4, 4096, 8, 3]⟩

abbrev nBuf : Space → Nat
  | .hbm => 129
  | .vmem => 0
  | .smem => 0
  | _ => 0

abbrev hbmTy0_0 (i : Nat) : BufTy := match i % 128 with
  | 0 => ⟨S4x4096x2048, .f32⟩
  | 1 => ⟨S2048x1024, .f32⟩
  | 2 => ⟨S2048x1024, .f32⟩
  | 3 => ⟨S2048x1024, .f32⟩
  | 4 => ⟨S4x16x64, .f32⟩
  | 5 => ⟨S4x4096x1024, .f32⟩
  | 6 => ⟨S4x4096x16x64, .f32⟩
  | 7 => ⟨S4x4096x1024, .f32⟩
  | 8 => ⟨S4x4096x16x64, .f32⟩
  | 9 => ⟨S4x1024x4x16x64, .f32⟩
  | 10 => ⟨S4x1024x4x16x64, .f32⟩
  | 11 => ⟨S1x1x4x16x64, .f32⟩
  | 12 => ⟨S4x1024x4x16x64, .f32⟩
  | 13 => ⟨S4x1024x4x16x64, .f32⟩
  | 14 => ⟨S_, .f32⟩
  | 15 => ⟨S4x1024x16x64, .f32⟩
  | 16 => ⟨S_, .f32⟩
  | 17 => ⟨S4x1024x16x64, .f32⟩
  | 18 => ⟨S4x1024x16x64, .f32⟩
  | 19 => ⟨S4x1024x1x16x64, .f32⟩
  | 20 => ⟨S4x1024x4x16x64, .f32⟩
  | 21 => ⟨S4x1024x4x16x64, .f32⟩
  | 22 => ⟨S4x1024x4x16x64, .f32⟩
  | 23 => ⟨S_, .f32⟩
  | 24 => ⟨S4x1024x16x64, .f32⟩
  | 25 => ⟨S4x1024x1x16x64, .f32⟩
  | 26 => ⟨S4x1024x4x16x64, .f32⟩
  | 27 => ⟨S4x1024x4x16x64, .f32⟩
  | 28 => ⟨S4x1024x4x16x64, .f32⟩
  | 29 => ⟨S_, .f32⟩
  | 30 => ⟨S4x1024x16x64, .f32⟩
  | 31 => ⟨S4x1024x16x64, .f32⟩
  | 32 => ⟨S_, .f32⟩
  | 33 => ⟨S4x1024x16, .f32⟩
  | 34 => ⟨S4x1024x16x1, .f32⟩
  | 35 => ⟨S_, .f32⟩
  | 36 => ⟨S4x1024x16x1, .f32⟩
  | 37 => ⟨S4x1024x16x1, .f32⟩
  | 38 => ⟨S_, .f32⟩
  | 39 => ⟨S4x1024x16x1, .f32⟩
  | 40 => ⟨S4x1024x16x1, .f32⟩
  | 41 => ⟨S4x1024x16x1, .f32⟩
  | 42 => ⟨S4x1024x16x64, .f32⟩
  | 43 => ⟨S4x1024x16x64, .f32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i32⟩
  | 51 => ⟨S_, .i32⟩
  | 52 => ⟨S1024, .i32⟩
  | 53 => ⟨S1024, .i32⟩
  | 54 => ⟨S4x4096x1024, .f32⟩
  | 55 => ⟨S4x4096x16x64, .f32⟩
  | 56 => ⟨S4x4096x16x64, .f32⟩
  | 57 => ⟨S_, .f32⟩
  | 58 => ⟨S4x4096x16, .f32⟩
  | 59 => ⟨S4x4096x16x1, .f32⟩
  | 60 => ⟨S_, .f32⟩
  | 61 => ⟨S4x4096x16x1, .f32⟩
  | 62 => ⟨S4x4096x16x1, .f32⟩
  | 63 => ⟨S_, .f32⟩
  | 64 => ⟨S4x4096x16x1, .f32⟩
  | 65 => ⟨S4x4096x16x1, .f32⟩
  | 66 => ⟨S4x4096x16x1, .f32⟩
  | 67 => ⟨S4x4096x16x64, .f32⟩
  | 68 => ⟨S4x4096x16x64, .f32⟩
  | 69 => ⟨S1x1x1024, .i32⟩
  | 70 => ⟨S4096, .i32⟩
  | 71 => ⟨S1x4096x1, .i32⟩
  | 72 => ⟨S1x4096x1024, .i32⟩
  | 73 => ⟨S1x4096x1024, .i32⟩
  | 74 => ⟨S1x4096x1024, .i1⟩
  | 75 => ⟨S4x16x4096x1024, .f32⟩
  | 76 => ⟨S_, .f32⟩
  | 77 => ⟨S4x16x4096x1024, .f32⟩
  | 78 => ⟨S4x16x4096x1024, .f32⟩
  | 79 => ⟨S_, .f32⟩
  | 80 => ⟨S4x4096x1024, .f32⟩
  | 81 => ⟨S_, .f32⟩
  | 82 => ⟨S4x4096x1024, .f32⟩
  | 83 => ⟨S4x4096x1024, .f32⟩
  | 84 => ⟨S_, .f32⟩
  | 85 => ⟨S_, .f32⟩
  | 86 => ⟨S4x4096x1024, .i1⟩
  | 87 => ⟨S4x4096x1024, .f32⟩
  | 88 => ⟨S4x4096x1024, .f32⟩
  | 89 => ⟨S4x4096x8, .f32⟩
  | 90 => ⟨S4x4096x8, .i32⟩
  | 91 => ⟨S_, .i1⟩
  | 92 => ⟨S4x4096x1024, .i1⟩
  | 93 => ⟨S4, .i32⟩
  | 94 => ⟨S4x1x1, .i32⟩
  | 95 => ⟨S4096, .i32⟩
  | 96 => ⟨S1x4096x1, .i32⟩
  | 97 => ⟨S_, .i32⟩
  | 98 => ⟨S4x1x1, .i32⟩
  | 99 => ⟨S4x1x1, .i1⟩
  | 100 => ⟨S_, .i32⟩
  | 101 => ⟨S4x1x1, .i32⟩
  | 102 => ⟨S4x1x1, .i32⟩
  | 103 => ⟨S4x1x1, .i32⟩
  | 104 => ⟨S_, .i32⟩
  | 105 => ⟨S1x4096x1, .i32⟩
  | 106 => ⟨S1x4096x1, .i1⟩
  | 107 => ⟨S_, .i32⟩
  | 108 => ⟨S1x4096x1, .i32⟩
  | 109 => ⟨S1x4096x1, .i32⟩
  | 110 => ⟨S1x4096x1, .i32⟩
  | 111 => ⟨S_, .i32⟩
  | 112 => ⟨S4x4096x8, .i32⟩
  | 113 => ⟨S4x4096x8, .i1⟩
  | 114 => ⟨S_, .i32⟩
  | 115 => ⟨S4x4096x8, .i32⟩
  | 116 => ⟨S4x4096x8, .i32⟩
  | 117 => ⟨S4x4096x8, .i32⟩
  | 118 => ⟨S4x4096x8, .i32⟩
  | 119 => ⟨S4x4096x8, .i32⟩
  | 120 => ⟨S4x4096x8x1, .i32⟩
  | 121 => ⟨S4x4096x8x1, .i32⟩
  | 122 => ⟨S4x4096x8x1, .i32⟩
  | 123 => ⟨S4x4096x8x3, .i32⟩
  | 124 => ⟨S_, .i1⟩
  | 125 => ⟨S4x4096x8, .i1⟩
  | 126 => ⟨S4x4096x1024, .i1⟩
  | 127 => ⟨S4x4096x1024, .i1⟩
  | _ => ⟨S4x4096x2048, .f32⟩

abbrev hbmTy0_1 (i : Nat) : BufTy := match i % 128 with
  | 0 => ⟨S4x4096x1024, .i1⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v63 : Ref sig .tc := ⟨.hbm, 88, rfl⟩
abbrev main_values : Ref sig .tc := ⟨.hbm, 89, rfl⟩
abbrev main_indices : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_c_19 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_22 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Proof.RefTerms.lean ====
/- The reference's composed term and the precondition's, cut into named stages both share: the normalized queries and
   keys, the causal mask, the masked scores, and the mask of the eight largest. -/
module

public import proofs.«01_k».proof.Pre_finite_and_no_tie
public import proofs.«01_k».proof.Proof.Gen.ReferenceIdeal.Run
public import proofs.«01_k».proof.Proof.Gen.Pre_finite_and_no_tie
public import Idealize.ShloMosaic.Lib.Pointwise

@[expose] public section

set_option maxRecDepth 16384

noncomputable section

namespace Cert.Proof.Ref

open Cert.ReferenceIdeal Cert.ReferenceIdeal.Gen Idealize.ShloMosaic Idealize.ShloMosaic.TcCoe Idealize.SL.Sem

/-- A projection of the inputs, its columns split into heads. -/
def projT (x : FVec Ideal S4x4096x2048 .f32) (w : FVec Ideal S2048x1024 .f32) : FVec Ideal S4x4096x16x64 .f32 :=
  shapeCast S4x4096x16x64 (Host.dotGeneral dot_S4x4096x2048_S2048x1024_S4x4096x1024_2_0_01_1_n_n none x w)
    shapeCasts_S4x4096x1024_S4x4096x16x64

/-- The root-mean-square normalization of a query projection, head by head. -/
def qnT (q : FVec Ideal S4x4096x16x64 .f32) : FVec Ideal S4x4096x16x64 .f32 :=
  mulf q (broadcastInDim S4x4096x16x64 ![0, 1, 2, 3] bcast_S4x4096x16x1_S4x4096x16x64_0_1_2_3 (Host.rsqrt (addf (Host.divf
    (broadcastInDim S4x4096x16x1 ![0, 1, 2] bcast_S4x4096x16_S4x4096x16x1_0_1_2
      (Host.reduceAdd (mulf q q) (constant S_ .f32 0x00000000#32) reducesTo_S4x4096x16x64_S4x4096x16_d3 h_S_))
    (broadcastInDim S4x4096x16x1 ![] bcast_S_S4x4096x16x1 (constant S_ .f32 0x42800000#32)))
    (broadcastInDim S4x4096x16x1 ![] bcast_S_S4x4096x16x1 (constant S_ .f32 0x358637BD#32)))))

/-- The gate scores in groups of four rows, the position table added. -/
def gateT (g : FVec Ideal S4x4096x16x64 .f32) (a : FVec Ideal S4x16x64 .f32) : FVec Ideal S4x1024x4x16x64 .f32 :=
  addf (shapeCast S4x1024x4x16x64 g shapeCasts_S4x4096x16x64_S4x1024x4x16x64)
    (broadcastInDim S4x1024x4x16x64 ![0, 1, 2, 3, 4] bcast_S1x1x4x16x64_S4x1024x4x16x64_0_1_2_3_4
      (broadcastInDim S1x1x4x16x64 ![2, 3, 4] bcast_S4x16x64_S1x1x4x16x64_2_3_4 a))

/-- Each group's maximum gate score. -/
def maxT (s : FVec Ideal S4x1024x4x16x64 .f32) : FVec Ideal S4x1024x16x64 .f32 :=
  maximumf (broadcastInDim S4x1024x16x64 ![] bcast_S_S4x1024x16x64 (constant S_ .f32 0xFF800000#32))
    (Host.reduce FloatOps.maximumf s (constant S_ .f32 0xFF800000#32) reducesTo_S4x1024x4x16x64_S4x1024x16x64_d2 h_S_)

/-- The exponentials of the gate scores, each group's maximum subtracted first. -/
def expT (s : FVec Ideal S4x1024x4x16x64 .f32) : FVec Ideal S4x1024x4x16x64 .f32 :=
  Host.exp (subf s (broadcastInDim S4x1024x4x16x64 ![0, 1, 2, 3, 4] bcast_S4x1024x1x16x64_S4x1024x4x16x64_0_1_2_3_4
    (broadcastInDim S4x1024x1x16x64 ![0, 1, 3, 4] bcast_S4x1024x16x64_S4x1024x1x16x64_0_1_3_4 (maxT s))))

/-- A group's rows averaged with the weights `e` divided by their sum. -/
def poolT (k : FVec Ideal S4x4096x16x64 .f32) (e : FVec Ideal S4x1024x4x16x64 .f32) : FVec Ideal S4x1024x16x64 .f32 :=
  Host.reduceAdd (mulf (shapeCast S4x1024x4x16x64 k shapeCasts_S4x4096x16x64_S4x1024x4x16x64)
    (Host.divf e (broadcastInDim S4x1024x4x16x64 ![0, 1, 2, 3, 4] bcast_S4x1024x1x16x64_S4x1024x4x16x64_0_1_2_3_4
      (broadcastInDim S4x1024x1x16x64 ![0, 1, 3, 4] bcast_S4x1024x16x64_S4x1024x1x16x64_0_1_3_4
        (Host.reduceAdd e (constant S_ .f32 0x00000000#32) reducesTo_S4x1024x4x16x64_S4x1024x16x64_d2 h_S_)))))
    (constant S_ .f32 0x00000000#32) reducesTo_S4x1024x4x16x64_S4x1024x16x64_d2 h_S_

/-- The root-mean-square normalization of the pooled keys, head by head. -/
def knT (k : FVec Ideal S4x1024x16x64 .f32) : FVec Ideal S4x1024x16x64 .f32 :=
  mulf k (broadcastInDim S4x1024x16x64 ![0, 1, 2, 3] bcast_S4x1024x16x1_S4x1024x16x64_0_1_2_3 (Host.rsqrt (addf (Host.divf
    (broadcastInDim S4x1024x16x1 ![0, 1, 2] bcast_S4x1024x16_S4x1024x16x1_0_1_2
      (Host.reduceAdd (mulf k k) (constant S_ .f32 0x00000000#32) reducesTo_S4x1024x16x64_S4x1024x16_d3 h_S_))
    (broadcastInDim S4x1024x16x1 ![] bcast_S_S4x1024x16x1 (constant S_ .f32 0x42800000#32)))
    (broadcastInDim S4x1024x16x1 ![] bcast_S_S4x1024x16x1 (constant S_ .f32 0x358637BD#32)))))

/-- The normalized keys of the arguments. -/
def keysT (x : FVec Ideal S4x4096x2048 .f32) (wk wg : FVec Ideal S2048x1024 .f32) (a : FVec Ideal S4x16x64 .f32) :
    FVec Ideal S4x1024x16x64 .f32 :=
  knT (poolT (projT x wk) (expT (gateT (projT x wg) a)))

/-- The last position of each group of four. -/
def endsT : IVec S1024 32 :=
  minsi (addi (broadcastInDim S1024 ![] bcast_S_S1024 (constantI S_ 32 3#32))
    (muli (broadcastInDim S1024 ![] bcast_S_S1024 (constantI S_ 32 4#32)) (iotaInDim S1024 32 0)))
    (broadcastInDim S1024 ![] bcast_S_S1024 (constantI S_ 32 4095#32))

/-- The causal mask: a group is seen by the positions from its last one on. -/
def causalT : IVec S1x4096x1024 1 :=
  cmpi .sle (broadcastInDim S1x4096x1024 ![0, 1, 2] bcast_S1x1x1024_S1x4096x1024_0_1_2
      (broadcastInDim S1x1x1024 ![2] bcast_S1024_S1x1x1024_2 endsT))
    (broadcastInDim S1x4096x1024 ![0, 1, 2] bcast_S1x4096x1_S1x4096x1024_0_1_2
      (broadcastInDim S1x4096x1 ![1] bcast_S4096_S1x4096x1_1 (iotaInDim S4096 32 0)))

/-- The scores as the reference takes them: each head's product scaled, averaged over the heads. -/
def scoreT (q : FVec Ideal S4x4096x16x64 .f32) (k : FVec Ideal S4x1024x16x64 .f32) : FVec Ideal S4x4096x1024 .f32 :=
  Host.divf (Host.reduceAdd (mulf (Host.dotGeneral dot_S4x4096x16x64_S4x1024x16x64_S4x16x4096x1024_3_3_1_1_02_02 none q k)
      (broadcastInDim S4x16x4096x1024 ![] bcast_S_S4x16x4096x1024 (constant S_ .f32 0x3E000000#32)))
      (constant S_ .f32 0x00000000#32) reducesTo_S4x16x4096x1024_S4x4096x1024_d1 h_S_)
    (broadcastInDim S4x4096x1024 ![] bcast_S_S4x4096x1024 (constant S_ .f32 0x41800000#32))

/-- The scores with minus infinity where the mask is off. -/
def maskedT (s : FVec Ideal S4x4096x1024 .f32) : FVec Ideal S4x4096x1024 .f32 :=
  select (broadcastInDim S4x4096x1024 ![0, 1, 2] bcast_S1x4096x1024_S4x4096x1024_0_1_2 causalT) s
    (broadcastInDim S4x4096x1024 ![] bcast_S_S4x4096x1024 (id (constant S_ .f32 0xFF800000#32)))

/-- The places of a row's eight largest scores. -/
def topT (s : FVec Ideal S4x4096x1024 .f32) : IVec S4x4096x8 32 :=
  (Host.topK S4x4096x8 2 (FloatOps.cmpfTotal .gt) s sliceFits_S4x4096x1024_S4x4096x8).2

/-- The full place of each of them: batch, row and group. -/
def placesT (i : IVec S4x4096x8 32) : IVec S4x4096x8x3 32 :=
  concatenate S4x4096x8x3 3
    [⟨S4x4096x8x1, broadcastInDim S4x4096x8x1 ![0, 1, 2] bcast_S4x4096x8_S4x4096x8x1_0_1_2
      (broadcastInDim S4x4096x8 ![0, 1, 2] bcast_S4x1x1_S4x4096x8_0_1_2
        (select (cmpi .slt (broadcastInDim S4x1x1 ![0] bcast_S4_S4x1x1_0 (iotaInDim S4 32 0))
            (broadcastInDim S4x1x1 ![] bcast_S_S4x1x1 (constantI S_ 32 0#32)))
          (addi (broadcastInDim S4x1x1 ![0] bcast_S4_S4x1x1_0 (iotaInDim S4 32 0))
            (broadcastInDim S4x1x1 ![] bcast_S_S4x1x1 (constantI S_ 32 4#32)))
          (broadcastInDim S4x1x1 ![0] bcast_S4_S4x1x1_0 (iotaInDim S4 32 0))))⟩,
     ⟨S4x4096x8x1, broadcastInDim S4x4096x8x1 ![0, 1, 2] bcast_S4x4096x8_S4x4096x8x1_0_1_2
      (broadcastInDim S4x4096x8 ![0, 1, 2] bcast_S1x4096x1_S4x4096x8_0_1_2
        (select (cmpi .slt (broadcastInDim S1x4096x1 ![1] bcast_S4096_S1x4096x1_1 (iotaInDim S4096 32 0))
            (broadcastInDim S1x4096x1 ![] bcast_S_S1x4096x1 (constantI S_ 32 0#32)))
          (addi (broadcastInDim S1x4096x1 ![1] bcast_S4096_S1x4096x1_1 (iotaInDim S4096 32 0))
            (broadcastInDim S1x4096x1 ![] bcast_S_S1x4096x1 (constantI S_ 32 4096#32)))
          (broadcastInDim S1x4096x1 ![1] bcast_S4096_S1x4096x1_1 (iotaInDim S4096 32 0))))⟩,
     ⟨S4x4096x8x1, broadcastInDim S4x4096x8x1 ![0, 1, 2] bcast_S4x4096x8_S4x4096x8x1_0_1_2
      (select (cmpi .slt i (broadcastInDim S4x4096x8 ![] bcast_S_S4x4096x8 (constantI S_ 32 0#32)))
        (addi i (broadcastInDim S4x4096x8 ![] bcast_S_S4x4096x8 (constantI S_ 32 1024#32))) i)⟩]
    concatenates_S4x4096x8x1_S4x4096x8x1_S4x4096x8x1_S4x4096x8x3_d3

/-- One at the places given, zero elsewhere. -/
def markT (p : IVec S4x4096x8x3 32) : IVec S4x4096x1024 1 :=
  Host.scatter scatter_S4x4096x1024_S4x4096x8x3_S4x4096x8_n_012_012_3 (fun _ b => b)
    (broadcastInDim S4x4096x1024 ![] bcast_S_S4x4096x1024 (constantI S_ 1 0#1)) p
    (broadcastInDim S4x4096x8 ![] bcast_S_S4x4096x8 (constantI S_ 1 1#1))

/-- The reference's first result from its masked scores. -/
def maskT (s : FVec Ideal S4x4096x1024 .f32) : IVec S4x4096x1024 1 :=
  andi (markT (placesT (topT s)))
    (broadcastInDim S4x4096x1024 ![0, 1, 2] bcast_S1x4096x1024_S4x4096x1024_0_1_2 causalT)

/-- The reference's first result is these stages composed. -/
theorem res_eq (m : (ℓ : Loc nD τ sig) → Buf (Elt Ideal) ℓ) (c : Dev nD) :
    Value.res_main_v93 m c = maskT (maskedT (scoreT
      (qnT (projT (m ((c.tc : Thread nD τ).loc main_arg0)) (m ((c.tc : Thread nD τ).loc main_arg1))))
      (keysT (m ((c.tc : Thread nD τ).loc main_arg0)) (m ((c.tc : Thread nD τ).loc main_arg2))
        (m ((c.tc : Thread nD τ).loc main_arg3)) (m ((c.tc : Thread nD τ).loc main_arg4))))) := rfl

end Cert.Proof.Ref

namespace Cert.Proof.Cond

open Cert.Pre_finite_and_no_tie Cert.Pre_finite_and_no_tie.Gen Idealize.ShloMosaic Idealize.SL.Sem

local instance : Cert.Pre_finite_and_no_tie.Facts := Cert.Pre_finite_and_no_tie.Gen.facts

/-- The precondition's scores: one product over heads and columns together. -/
def scoreT (q : FVec Ideal S4x4096x16x64 .f32) (k : FVec Ideal S4x1024x16x64 .f32) : FVec Ideal S4x4096x1024 .f32 :=
  Host.dotGeneral dot_S4x4096x16x64_S4x1024x16x64_S4x4096x1024_32_32_1_1_0_0 none q k

/-- A row's nine largest scores in order. -/
def nineT (s : FVec Ideal S4x4096x1024 .f32) : FVec Ideal S4x4096x9 .f32 :=
  (Host.topK S4x4096x9 2 (FloatOps.cmpfTotal .gt) s Facts.sliceFits_S4x4096x1024_S4x4096x9).1

/-- No tie: the nine are strictly decreasing, or the ninth is minus infinity. -/
def noTieT (v : FVec Ideal S4x4096x9 .f32) : IVec S4x4096 1 :=
  ori (Host.reduce IntOp.andi (cmpf .ogt (extractStridedSlice S4x4096x8 ![0, 0, 0] v Facts.slices_S4x4096x9_S4x4096x8_0_0_0)
      (extractStridedSlice S4x4096x8 ![0, 0, 1] v Facts.slices_S4x4096x9_S4x4096x8_0_0_1)) (constantI S_ 1 1#1)
      Facts.reducesTo_S4x4096x8_S4x4096_d2 Facts.h_S_)
    (cmpf .oeq (shapeCast S4x4096 (extractStridedSlice S4x4096x1 ![0, 0, 8] v Facts.slices_S4x4096x9_S4x4096x1_0_0_8)
      Facts.shapeCasts_S4x4096x1_S4x4096)
      (broadcastInDim S4x4096 ![] Facts.bcast_S_S4x4096 (constant S_ .f32 0xFF800000#32)))

variable (x : FVec Ideal S4x4096x2048 .f32) (wq wk wg : FVec Ideal S2048x1024 .f32) (a : FVec Ideal S4x16x64 .f32)

/-- The precondition's fourth component is the no-tie condition of its masked scores. -/
theorem fn_noTie : (fn (F := Ideal) x wq wk wg a).2.2.2
    = noTieT (nineT (Ref.maskedT (scoreT (Ref.qnT (Ref.projT x wq)) (Ref.keysT x wk wg a)))) := rfl

/-- Its first says the inputs are finite, -/
theorem fn_x : (fn (F := Ideal) x wq wk wg a).1
    = cmpf .olt (Host.absf x) (broadcastInDim S4x4096x2048 ![] Facts.bcast_S_S4x4096x2048 (constant S_ .f32 0x7F800000#32)) := rfl
/-- the second that the gate weights are, -/
theorem fn_wg : (fn (F := Ideal) x wq wk wg a).2.1
    = cmpf .olt (Host.absf wg) (broadcastInDim S2048x1024 ![] Facts.bcast_S_S2048x1024 (constant S_ .f32 0x7F800000#32)) := rfl
/-- and the third that the position table is. -/
theorem fn_a : (fn (F := Ideal) x wq wk wg a).2.2.1
    = cmpf .olt (Host.absf a) (broadcastInDim S4x16x64 ![] Facts.bcast_S_S4x16x64 (constant S_ .f32 0x7F800000#32)) := rfl

end Cert.Proof.Cond

end
-- ==== Proof.TopMath.lean ====
/- Order facts about taking the eight largest of a row, in two ways: by a sort, and by eight rounds of "find the maximum
   and strike it out". Nothing here mentions a program. -/
module

public import Mathlib.Data.EReal.Basic
public import Mathlib.Data.Finset.Fold
public import Mathlib.Data.Finset.Lattice.Fold
public import Mathlib.Data.Fintype.Basic
public import Mathlib.Data.Fintype.Card

@[expose] public section

noncomputable section

namespace Cert.Proof.Top

variable {n : ℕ}

/-- The maximum of a row, starting from minus infinity. -/
def rowMax (f : Fin n → EReal) : EReal := Finset.univ.fold max ⊥ f

/-- The row with every entry that reaches the maximum struck out (set to minus infinity). -/
def strike (f : Fin n → EReal) : Fin n → EReal := fun i => if rowMax f ≤ f i then ⊥ else f i

/-- The row after `k` rounds of striking out. -/
def rounds (f : Fin n → EReal) : ℕ → Fin n → EReal
  | 0 => f
  | k + 1 => strike (rounds f k)

/-- No entry exceeds the maximum. -/
theorem le_rowMax (f : Fin n → EReal) (i : Fin n) : f i ≤ rowMax f :=
  Finset.le_fold_max _ |>.mpr (Or.inr ⟨i, Finset.mem_univ i, le_rfl⟩)

/-- A bound of every entry bounds the maximum. -/
theorem rowMax_le (f : Fin n → EReal) (b : EReal) (h : ∀ i, f i ≤ b) : rowMax f ≤ b :=
  Finset.fold_max_le _ |>.mpr ⟨bot_le, fun i _ => h i⟩

/-- The maximum is minus infinity or is reached. -/
theorem rowMax_attained (f : Fin n → EReal) : rowMax f = ⊥ ∨ ∃ i, f i = rowMax f := by
  by_cases h : rowMax f = ⊥
  · exact .inl h
  · refine .inr ?_
    rcases (Finset.le_fold_max (rowMax f)).mp (le_refl (rowMax f)) with h' | ⟨i, -, hi⟩
    · exact absurd (le_bot_iff.mp h') h
    · exact ⟨i, le_antisymm (le_rowMax f i) hi⟩

/-- Striking out never raises an entry. -/
theorem strike_le (f : Fin n → EReal) (i : Fin n) : strike f i ≤ f i := by
  unfold strike; split
  · exact bot_le
  · exact le_rfl

/-- The threshold of a later round is no larger than that of the round before it. -/
theorem rowMax_rounds_succ_le (f : Fin n → EReal) (k : ℕ) : rowMax (rounds f (k + 1)) ≤ rowMax (rounds f k) :=
  rowMax_le _ _ fun i => (strike_le _ i).trans (le_rowMax _ i)

/-- After any number of rounds an entry is still there, or it was struck out and so is at least the present threshold. -/
theorem rounds_kept_or (f : Fin n → EReal) (i : Fin n) (k : ℕ) :
    rounds f k i = f i ∨ rowMax (rounds f k) ≤ f i := by
  induction k with
  | zero => exact .inl rfl
  | succ k ih =>
    rcases ih with h | h
    · by_cases hk : rowMax (rounds f k) ≤ rounds f k i
      · exact .inr ((rowMax_rounds_succ_le f k).trans (hk.trans_eq h))
      · left; show strike (rounds f k) i = f i
        unfold strike; rw [if_neg hk, h]
    · exact .inr ((rowMax_rounds_succ_le f k).trans h)

/-- The entries a row still holds. -/
def live (f : Fin n → EReal) : Finset (Fin n) := Finset.univ.filter fun i => f i ≠ ⊥

/-- An index is live where its value is not minus infinity. -/
theorem mem_live (f : Fin n → EReal) (i : Fin n) : i ∈ live f ↔ f i ≠ ⊥ := by simp [live]

/-- Each round strikes out at least one entry, while any is left. -/
theorem card_live_strike (f : Fin n → EReal) : (live (strike f)).card ≤ (live f).card - 1 := by
  have hsub : live (strike f) ⊆ live f := fun i hi => by
    rw [mem_live] at hi ⊢
    exact fun h => hi (le_bot_iff.mp ((strike_le f i).trans_eq h))
  rcases (live f).eq_empty_or_nonempty with h | ⟨j, hj⟩
  · rw [h] at hsub ⊢; simp [Finset.subset_empty.mp hsub]
  · have hm : rowMax f ≠ ⊥ := fun h => (mem_live f j).mp hj (le_bot_iff.mp ((le_rowMax f j).trans_eq h))
    obtain ⟨i, hi⟩ := (rowMax_attained f).resolve_left hm
    have hlt : live (strike f) ⊂ live f := by
      refine (Finset.ssubset_iff_of_subset hsub).mpr ⟨i, (mem_live f i).mpr (hi ▸ hm), fun h => ?_⟩
      refine (mem_live _ i).mp h ?_
      unfold strike; rw [if_pos hi.ge]
    have := Finset.card_lt_card hlt
    omega

/-- So `k` rounds strike out at least `k` of them. -/
theorem card_live_rounds (f : Fin n → EReal) (k : ℕ) : (live (rounds f k)).card ≤ (live f).card - k := by
  induction k with
  | zero => exact le_rfl
  | succ k ih =>
    have h := card_live_strike (rounds f k)
    show (live (strike (rounds f k))).card ≤ _
    omega

/-- A row with at most eight entries: every one of them reaches the eighth threshold. -/
theorem le_of_few (f : Fin n → EReal) (h8 : (live f).card ≤ 8) (i : Fin n) (hi : f i ≠ ⊥) :
    rowMax (rounds f 7) ≤ f i := by
  rcases rounds_kept_or f i 7 with h | h
  · have hc := card_live_rounds f 7
    have hone : (live (rounds f 7)).card ≤ 1 := by omega
    have hmem : i ∈ live (rounds f 7) := (mem_live _ i).mpr (h ▸ hi)
    refine rowMax_le _ _ fun j => ?_
    by_cases hj : rounds f 7 j = ⊥
    · rw [hj]; exact bot_le
    · have : j = i := Finset.card_le_one.mp hone j ((mem_live _ j).mpr hj) i hmem
      rw [this, h]
  · exact h

section Sorted

variable (f : Fin n → EReal) (σ : Fin n → Fin n) (hσ : Function.Bijective σ)
  (anti : ∀ i j : Fin n, i < j → f (σ j) ≤ f (σ i))
include hσ anti

/-- With the first nine sorted entries strictly decreasing, `k ≤ 8` rounds strike out exactly the first `k` of them. -/
theorem rounds_of_distinct (hn : 8 < n)
    (hd : ∀ (r : ℕ) (hr : r < 8), f (σ ⟨r + 1, by omega⟩) < f (σ ⟨r, by omega⟩)) (k : ℕ) (hk : k ≤ 8) (j : Fin n) :
    rounds f k (σ j) = (if j.val < k then ⊥ else f (σ j)) ∧ rowMax (rounds f k) = f (σ ⟨k, by omega⟩) := by
  have le_of : ∀ a b : Fin n, a ≤ b → f (σ b) ≤ f (σ a) := fun a b h => by
    rcases h.lt_or_eq with h | h
    · exact anti a b h
    · rw [h]
  have max_of : ∀ k : ℕ, (hk : k ≤ 8) → (∀ j : Fin n, rounds f k (σ j) = if j.val < k then ⊥ else f (σ j)) →
      rowMax (rounds f k) = f (σ ⟨k, by omega⟩) := fun k hk h => by
    refine le_antisymm (rowMax_le _ _ fun i => ?_) ?_
    · obtain ⟨j, rfl⟩ := hσ.2 i
      rw [h j]; split
      · exact bot_le
      · exact le_of _ _ (by rw [Fin.le_def]; show k ≤ j.val; omega)
    · refine le_trans (le_of_eq ?_) (le_rowMax _ (σ ⟨k, by omega⟩))
      rw [h]; simp
  have main : ∀ k : ℕ, k ≤ 8 → ∀ j : Fin n, rounds f k (σ j) = if j.val < k then ⊥ else f (σ j) := by
    intro k
    induction k with
    | zero => intro _ j; simp [rounds]
    | succ k ih =>
      intro hk j
      have hm := max_of k (by omega) (ih (by omega))
      show strike (rounds f k) (σ j) = _
      unfold strike
      rw [hm, ih (by omega) j]
      rcases Nat.lt_trichotomy j.val k with h | h | h
      · rw [if_pos h, if_pos (by omega : j.val < k + 1)]; split <;> rfl
      · have e : (⟨k, by omega⟩ : Fin n) = j := Fin.ext h.symm
        rw [if_neg (by omega : ¬ j.val < k), e, if_pos le_rfl, if_pos (by omega : j.val < k + 1)]
      · rw [if_neg (by omega : ¬ j.val < k), if_neg, if_neg (by omega : ¬ j.val < k + 1)]
        exact not_le.mpr ((le_of ⟨k + 1, by omega⟩ j (by rw [Fin.le_def]; exact h)).trans_lt (hd k (by omega)))
  exact ⟨main k hk j, max_of k hk (main k hk)⟩

/-- An entry is among the first eight of the sorted row exactly when it reaches the eighth threshold, provided the ninth
    sorted entry is minus infinity or the first nine are distinct. -/
theorem threshold_iff (hn : 8 < n)
    (h : f (σ ⟨8, hn⟩) = ⊥ ∨ ∀ (r : ℕ) (hr : r < 8), f (σ ⟨r + 1, by omega⟩) < f (σ ⟨r, by omega⟩))
    (i : Fin n) (hi : f i ≠ ⊥) : rowMax (rounds f 7) ≤ f i ↔ ∃ j : Fin n, j.val < 8 ∧ σ j = i := by
  obtain ⟨j, rfl⟩ := hσ.2 i
  have hmem : (∃ j' : Fin n, j'.val < 8 ∧ σ j' = σ j) ↔ j.val < 8 :=
    ⟨fun ⟨j', h', e⟩ => hσ.1 e ▸ h', fun h' => ⟨j, h', rfl⟩⟩
  rw [hmem]
  have le_of : ∀ a b : Fin n, a ≤ b → f (σ b) ≤ f (σ a) := fun a b h => by
    rcases h.lt_or_eq with h | h
    · exact anti a b h
    · rw [h]
  rcases h with hbot | hd
  · have first : ∀ j : Fin n, f (σ j) ≠ ⊥ → j.val < 8 := fun j hj => by
      by_contra hge
      refine hj (le_bot_iff.mp (hbot ▸ le_of ⟨8, hn⟩ j ?_))
      rw [Fin.le_def]; show 8 ≤ j.val; omega
    refine ⟨fun _ => first j hi, fun _ => le_of_few f ?_ _ hi⟩
    have hsub : live f ⊆ (Finset.univ : Finset (Fin 8)).image fun a => σ ⟨a.val, by omega⟩ := fun x hx => by
      obtain ⟨y, rfl⟩ := hσ.2 x
      exact Finset.mem_image.mpr ⟨⟨y.val, first y ((mem_live _ _).mp hx)⟩, Finset.mem_univ _, rfl⟩
    exact (Finset.card_le_card hsub).trans (Finset.card_image_le.trans (by simp))
  · rw [(rounds_of_distinct f σ hσ anti hn hd 7 (by omega) j).2]
    refine ⟨fun hle => ?_, fun hlt => le_of _ _ (by rw [Fin.le_def]; show j.val ≤ 7; omega)⟩
    by_contra hge
    have h1 := le_of ⟨8, hn⟩ j (by rw [Fin.le_def]; show 8 ≤ j.val; omega)
    exact absurd (hle.trans h1) (not_le.mpr (hd 7 (by omega)))

end Sorted

end Cert.Proof.Top

end
-- ==== Proof.Spec.lean ====
/- What both programs compute, over the extended reals and with plain indices: projections of a row, root-mean-square
   normalization head by head, softmax pooling of four rows, scores and the causal mask; and the identities that bring
   either program's arithmetic to these forms. -/
module

public import Idealize.ShloMosaic.Lib.Pointwise
public import Mathlib.Algebra.BigOperators.Fin

@[expose] public section

noncomputable section

namespace Cert.Proof.Spec

open Idealize.ShloMosaic
open scoped BigOperators

/-! ### Real values -/

/-- The extended real is a real number. -/
def IsReal (x : EReal) : Prop := ∃ r : ℝ, x = (r : EReal)

/-- A real number is real. -/
theorem IsReal.coe (r : ℝ) : IsReal (r : EReal) := ⟨r, rfl⟩

/-- Sums of real numbers are real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- Products of real numbers are real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Finite sums of real numbers are real. -/
theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A real number is not minus infinity. -/
theorem IsReal.ne_bot {x : EReal} (h : IsReal x) : x ≠ ⊥ := by
  obtain ⟨a, rfl⟩ := h; exact EReal.coe_ne_bot a

/-- A maximum over a nonempty set of real numbers, started from minus infinity, is a real number. -/
theorem IsReal.fold_max {ι : Type*} (s : Finset ι) (hs : s.Nonempty) {f : ι → EReal} (h : ∀ i, IsReal (f i)) :
    IsReal (s.fold max ⊥ f) := by
  classical
  have key : ∀ s : Finset ι, s.fold max ⊥ f = ⊥ ∧ s = ∅ ∨ IsReal (s.fold max ⊥ f) := by
    intro s
    induction s using Finset.induction_on with
    | empty => exact .inl ⟨rfl, rfl⟩
    | insert a s ha ih =>
      refine .inr ?_
      rw [Finset.fold_insert ha]
      rcases ih with ⟨e, _⟩ | e
      · rw [e, max_eq_left bot_le]; exact h a
      · rcases max_choice (f a) (s.fold max ⊥ f) with e' | e' <;> rw [e']
        · exact h a
        · exact e
  rcases key s with ⟨_, e⟩ | e
  · exact absurd e hs.ne_empty
  · exact e

/-- A value whose absolute value is below plus infinity is a real number. -/
theorem IsReal.of_abs {x : EReal} (h : max x (-x) < ⊤) : IsReal x := by
  induction x with
  | bot => simp at h
  | top => simp at h
  | coe r => exact ⟨r, rfl⟩

/-! ### The constants -/

/-- The word of minus infinity. -/
theorem bits_bot : Ideal.ofBits .f32 4286578688#32 = ⊥ := by simp [Ideal.ofBits, Ideal.ieee]
/-- The word of plus infinity. -/
theorem bits_top : Ideal.ofBits .f32 2139095040#32 = ⊤ := by simp [Ideal.ofBits, Ideal.ieee]
/-- The word of 64. -/
theorem bits_64 : Ideal.ofBits .f32 1115684864#32 = ((64 : ℝ) : EReal) := by
  simp [Ideal.ofBits, Ideal.ieee, -EReal.coe_mul]; norm_num
/-- The word of 1/64. -/
theorem bits_64th : Ideal.ofBits .f32 1015021568#32 = ((1 / 64 : ℝ) : EReal) := by
  simp [Ideal.ofBits, Ideal.ieee, -EReal.coe_mul]; norm_num
/-- The word of 1/8. -/
theorem bits_8th : Ideal.ofBits .f32 1040187392#32 = ((1 / 8 : ℝ) : EReal) := by
  simp [Ideal.ofBits, Ideal.ieee, -EReal.coe_mul]; norm_num
/-- The word of 16. -/
theorem bits_16 : Ideal.ofBits .f32 1098907648#32 = ((16 : ℝ) : EReal) := by
  simp [Ideal.ofBits, Ideal.ieee, -EReal.coe_mul]; norm_num

/-- The small number added under the root, as the programs' pattern denotes it. -/
def eps : EReal := Ideal.ofBits .f32 897988541#32

/-- The constant added under the root is a positive real number. -/
theorem eps_pos : ∃ e : ℝ, 0 < e ∧ eps = (e : EReal) := by
  refine ⟨(2 ^ 23 + (897988541 % 2 ^ 23 : ℕ) : ℝ) * (2 : ℝ) ^ ((897988541 / 2 ^ 23 : ℤ) - 127 - 23), by positivity, ?_⟩
  simp [eps, Ideal.ofBits, Ideal.ieee, -EReal.coe_mul]
  norm_num

/-! ### Sums over columns, split into heads or groups -/

/-- Entry `d` of part `a`, the parts `n` long. -/
def part {N m n : ℕ} (h : m * n = N) (a : Fin m) (d : Fin n) : Fin N :=
  ⟨a * n + d, by
    have := a.isLt; have := d.isLt
    calc a.val * n + d.val < a.val * n + n := by omega
      _ = (a.val + 1) * n := by ring
      _ ≤ m * n := Nat.mul_le_mul_right _ (by omega)
      _ = N := h⟩

/-- The part an entry lies in is its number divided by the parts' length. -/
theorem part_div {N m n : ℕ} (h : m * n = N) (a : Fin m) (d : Fin n) : (part h a d).val / n = a := by
  have := d.isLt
  simp only [part]
  rw [Nat.add_comm, Nat.add_mul_div_right _ _ (by omega), Nat.div_eq_of_lt this, Nat.zero_add]

/-- A sum over all entries is the sum over the parts of the sums over each. -/
theorem sum_parts {N m n : ℕ} {M : Type*} [AddCommMonoid M] (h : m * n = N) (F : Fin N → M) :
    ∑ c, F c = ∑ a : Fin m, ∑ d : Fin n, F (part h a d) := by
  subst h
  rw [← Equiv.sum_comp finProdFinEquiv F, Fintype.sum_prod_type]
  refine Finset.sum_congr rfl fun a _ => Finset.sum_congr rfl fun d _ => congrArg F (Fin.ext ?_)
  simp [part, finProdFinEquiv]; ring

/-- A sum weighted by "lies in part `a`" is the sum over that part. -/
theorem sum_pick_part {N m n : ℕ} (h : m * n = N) (F : Fin N → EReal) (a : Fin m) :
    ∑ c : Fin N, F c * (if c.val / n = a.val then (1 : EReal) else 0) = ∑ d : Fin n, F (part h a d) := by
  rw [sum_parts h, Finset.sum_eq_single a]
  · refine Finset.sum_congr rfl fun d _ => ?_
    rw [part_div, if_pos rfl, mul_one]
  · intro b _ hb
    refine Finset.sum_eq_zero fun d _ => ?_
    rw [part_div, if_neg (fun e => hb (Fin.ext e)), mul_zero]
  · intro hn; exact absurd (Finset.mem_univ a) hn

/-- A sum weighted by "is the entry `a`" is that entry. -/
theorem sum_pick {m : ℕ} (F : Fin m → EReal) (a : Fin m) :
    ∑ c : Fin m, F c * (if c.val = a.val then (1 : EReal) else 0) = F a := by
  rw [Finset.sum_eq_single a]
  · rw [if_pos rfl, mul_one]
  · intro b _ hb; rw [if_neg (fun e => hb (Fin.ext e)), mul_zero]
  · intro hn; exact absurd (Finset.mem_univ a) hn

/-! ### The words of a head's and a group's number -/

/-- A comparison bit for equality, widened and read as a number, is one or zero. -/
theorem eq_word (a b : BitVec 32) :
    FloatOps.sitofp (F := Ideal) .f32 (BitVec.setWidth 32 (IntOp.cmpi .eq a b)) = if a = b then (1 : EReal) else 0 := by
  show (((BitVec.setWidth 32 (IntOp.cmpi .eq a b)).toInt : ℝ) : EReal) = _
  by_cases h : a = b
  · subst h; simp [IntOp.cmpi]
  · have : (a == b) = false := by simpa using h
    simp [IntOp.cmpi, h, this]

/-- Small numbers are equal when their words are. -/
theorem word_inj {a b : ℕ} (ha : a < 4096) (hb : b < 4096) : BitVec.ofNat 32 a = BitVec.ofNat 32 b ↔ a = b := by
  constructor
  · intro h
    have := congrArg BitVec.toNat h
    simp only [BitVec.toNat_ofNat] at this
    omega
  · exact congrArg _

/-! ### The computation -/

/-- The column of the head of `c` at offset `d`. -/
def headCol (c : Fin 1024) (d : Fin 64) : Fin 1024 := ⟨c.val / 64 * 64 + d.val, by omega⟩

/-- Root-mean-square normalization head by head. -/
def norm (f : Fin 1024 → EReal) (c : Fin 1024) : EReal :=
  f c * Ideal.rsqrt ((∑ d : Fin 64, f (headCol c d) * f (headCol c d)) * ((1 / 64 : ℝ) : EReal) + eps)

/-- A row times a matrix. -/
def proj (x : Fin 2048 → EReal) (w : Fin 2048 → Fin 1024 → EReal) (c : Fin 1024) : EReal := ∑ j, x j * w j c

/-- Four values averaged with the softmax of four scores as weights. -/
def pool (s k : Fin 4 → EReal) : EReal := Ideal.div (∑ r, Ideal.exp (s r) * k r) (∑ r, Ideal.exp (s r))

/-- The argument arrays, curried. -/
structure Args where
  /-- the inputs: batch, position, feature -/
  x : Fin 4 → Fin 4096 → Fin 2048 → EReal
  /-- the query weights -/
  wq : Fin 2048 → Fin 1024 → EReal
  /-- the key weights -/
  wk : Fin 2048 → Fin 1024 → EReal
  /-- the gate weights -/
  wg : Fin 2048 → Fin 1024 → EReal
  /-- the position table, its columns in a line -/
  a : Fin 4 → Fin 1024 → EReal

/-- What the gate scores are computed from is real. -/
structure Args.Real (A : Args) : Prop where
  x : ∀ b t j, IsReal (A.x b t j)
  wg : ∀ j c, IsReal (A.wg j c)
  a : ∀ r c, IsReal (A.a r c)

/-- Row `r` of group `g`. -/
def row (g : Fin 1024) (r : Fin 4) : Fin 4096 := ⟨g.val * 4 + r.val, by omega⟩

/-- The normalized query of a position. -/
def query (A : Args) (b : Fin 4) (t : Fin 4096) : Fin 1024 → EReal := norm (proj (A.x b t) A.wq)

/-- The gate score of row `r` of a group. -/
def gate (A : Args) (b : Fin 4) (g : Fin 1024) (c : Fin 1024) (r : Fin 4) : EReal :=
  proj (A.x b (row g r)) A.wg c + A.a r c

/-- The pooled key of a group. -/
def pooled (A : Args) (b : Fin 4) (g : Fin 1024) (c : Fin 1024) : EReal :=
  pool (gate A b g c) (fun r => proj (A.x b (row g r)) A.wk c)

/-- The normalized key of a group. -/
def key (A : Args) (b : Fin 4) (g : Fin 1024) : Fin 1024 → EReal := norm (pooled A b g)

/-- The score of a group at a position. -/
def score (A : Args) (b : Fin 4) (t : Fin 4096) (g : Fin 1024) : EReal := ∑ c, query A b t c * key A b g c

/-- The group is wholly in the position's past. -/
def seen (t : Fin 4096) (g : Fin 1024) : Prop := 4 * g.val + 3 ≤ t.val

instance (t : Fin 4096) (g : Fin 1024) : Decidable (seen t g) := inferInstanceAs (Decidable (_ ≤ _))

/-- The scores of a position, minus infinity where the group is not seen. -/
def masked (A : Args) (b : Fin 4) (t : Fin 4096) (g : Fin 1024) : EReal := if seen t g then score A b t g else ⊥

/-! ### What is real -/

/-- A real row times a real matrix is real. -/
theorem proj_real {x : Fin 2048 → EReal} {w : Fin 2048 → Fin 1024 → EReal} (hx : ∀ j, IsReal (x j))
    (hw : ∀ j c, IsReal (w j c)) (c : Fin 1024) : IsReal (proj x w c) :=
  IsReal.sum _ fun j => (hx j).mul (hw j c)

/-- A sum of squares of which one is infinite is plus infinity. -/
theorem sum_sq_top (h : Fin 64 → EReal) {d : Fin 64} (hd : ¬ IsReal (h d)) : ∑ d, h d * h d = ⊤ := by
  have hsq : ∀ v : EReal, 0 ≤ v * v := fun v => by
    rcases le_total 0 v with hv | hv
    · exact mul_nonneg hv hv
    · rw [← neg_mul_neg]
      have := EReal.neg_le_neg_iff.2 hv
      rw [neg_zero] at this
      exact mul_nonneg this this
  have htop : h d * h d = ⊤ := by
    induction hv : h d using EReal.rec with
    | bot => exact EReal.bot_mul_bot
    | coe r => exact absurd ⟨r, hv⟩ hd
    | top => exact EReal.top_mul_top
  refine top_le_iff.1 (htop ▸ ?_)
  exact Finset.single_le_sum (f := fun d => h d * h d) (fun d _ => hsq (h d)) (Finset.mem_univ d)

/-- Normalized values are real, whatever is normalized: in a head with an infinite value they are zero. -/
theorem norm_real (f : Fin 1024 → EReal) (c : Fin 1024) : IsReal (norm f c) := by
  obtain ⟨e, he, he'⟩ := eps_pos
  unfold norm
  by_cases hf : ∀ d, IsReal (f (headCol c d))
  · have hc : headCol c ⟨c.val % 64, by omega⟩ = c := Fin.ext (by simp only [headCol]; omega)
    refine IsReal.mul (hc ▸ hf _) ?_
    choose g hg using hf
    have : (∑ d : Fin 64, f (headCol c d) * f (headCol c d)) * ((1 / 64 : ℝ) : EReal) + eps
        = (((∑ d : Fin 64, g d * g d) * (1 / 64) + e : ℝ) : EReal) := by
      rw [EReal.coe_add, EReal.coe_mul, coe_sum, he']
      refine congrArg (fun z => z * ((1 / 64 : ℝ) : EReal) + (e : EReal)) (Finset.sum_congr rfl fun d _ => ?_)
      rw [hg, EReal.coe_mul]
    have hp : 0 < (∑ d : Fin 64, g d * g d) * (1 / 64) + e :=
      add_pos_of_nonneg_of_pos (mul_nonneg (Finset.sum_nonneg fun d _ => mul_self_nonneg _) (by norm_num)) he
    rw [this, Ideal.rsqrt_coe, if_neg hp.le.not_gt, if_neg hp.ne']
    exact .coe _
  · obtain ⟨d, hd⟩ := not_forall.1 hf
    rw [sum_sq_top (fun d => f (headCol c d)) hd, EReal.top_mul_coe_of_pos (by norm_num), he', EReal.top_add_coe]
    show IsReal (f c * 0)
    rw [mul_zero]
    exact ⟨0, rfl⟩

/-- Multiplying by a positive real number goes through a sum. -/
theorem sum_mul_pos {ι : Type*} (s : Finset ι) (f : ι → EReal) {r : ℝ} (hr : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr.le) (EReal.coe_ne_top r)]

/-- The exponential of a real score lowered by a real number, over the sum of four such, is the softmax weight. -/
theorem weight_eq (s : Fin 4 → ℝ) (M : ℝ) (r : Fin 4) :
    Real.exp (s r - M) * (1 / ∑ r, Real.exp (s r - M)) = Real.exp (s r) / ∑ r, Real.exp (s r) := by
  have hp : (0 : ℝ) < ∑ r, Real.exp (s r) := Finset.sum_pos (fun r _ => Real.exp_pos _) ⟨0, Finset.mem_univ _⟩
  have := Real.exp_pos (-M)
  simp only [sub_eq_add_neg, Real.exp_add, ← Finset.sum_mul]
  field_simp

/-- Any values, pooled with real scores each lowered by one real number, are averaged with the softmax weights. -/
theorem pool_shift (s : Fin 4 → ℝ) (k : Fin 4 → EReal) (M : ℝ) :
    Ideal.div (∑ r, Ideal.exp ((s r : EReal) - (M : EReal)) * k r) (∑ r, Ideal.exp ((s r : EReal) - (M : EReal)))
      = ∑ r, k r * ((Real.exp (s r) / ∑ r, Real.exp (s r) : ℝ) : EReal) := by
  have hp : (0 : ℝ) < ∑ r, Real.exp (s r - M) := Finset.sum_pos (fun r _ => Real.exp_pos _) ⟨0, Finset.mem_univ _⟩
  simp only [← EReal.coe_sub, Ideal.exp_coe, ← coe_sum]
  rw [Ideal.div_coe hp.ne', sum_mul_pos _ _ (one_div_pos.2 hp)]
  refine Finset.sum_congr rfl fun r _ => ?_
  rw [mul_comm _ (k r), mul_assoc, ← EReal.coe_mul, weight_eq]

/-- Any values, pooled with real scores each lowered by one real number, pool to the plain pooled value. -/
theorem pool_eq {s k : Fin 4 → EReal} {M : EReal} (hs : ∀ r, IsReal (s r)) (hM : IsReal M) :
    Ideal.div (∑ r, Ideal.exp (s r - M) * k r) (∑ r, Ideal.exp (s r - M)) = pool s k := by
  choose s' hs using hs; obtain ⟨M', rfl⟩ := hM
  obtain rfl : s = fun r => (s' r : EReal) := funext hs
  have h0 := pool_shift s' k 0
  simp only [EReal.coe_zero, sub_zero] at h0
  rw [pool_shift, pool, h0]

/-- The same with each value weighted by its own quotient. -/
theorem pool_eq' {s k : Fin 4 → EReal} {M : EReal} (hs : ∀ r, IsReal (s r)) (hM : IsReal M) :
    ∑ r, k r * Ideal.div (Ideal.exp (s r - M)) (∑ r', Ideal.exp (s r' - M)) = pool s k := by
  rw [← pool_eq hs hM]
  choose s' hs using hs; obtain ⟨M', rfl⟩ := hM
  obtain rfl : s = fun r => (s' r : EReal) := funext hs
  have hp : (0 : ℝ) < ∑ r, Real.exp (s' r - M') := Finset.sum_pos (fun r _ => Real.exp_pos _) ⟨0, Finset.mem_univ _⟩
  rw [pool_shift]
  refine Finset.sum_congr rfl fun r _ => ?_
  simp only [← EReal.coe_sub, Ideal.exp_coe, ← coe_sum, Ideal.div_coe hp.ne', ← EReal.coe_mul, weight_eq]

variable {A : Args}

/-- Queries are real for any arguments, -/
theorem query_real (b : Fin 4) (t : Fin 4096) (c : Fin 1024) : IsReal (query A b t c) := norm_real _ c

/-- and so are keys. -/
theorem key_real (b : Fin 4) (g c : Fin 1024) : IsReal (key A b g c) := norm_real _ c

/-- Scores are real for any arguments. -/
theorem score_real (b : Fin 4) (t : Fin 4096) (g : Fin 1024) : IsReal (score A b t g) :=
  IsReal.sum _ fun c => (query_real b t c).mul (key_real b g c)

/-- Gate scores are real where what they are computed from is. -/
theorem gate_real (hA : A.Real) (b : Fin 4) (g c : Fin 1024) (r : Fin 4) : IsReal (gate A b g c r) :=
  (proj_real (hA.x b _) hA.wg c).add (hA.a r c)

end Cert.Proof.Spec

end
-- ==== Proof.RefScores.lean ====
/- The reference's and the precondition's stages up to the masked scores, read at an index: they are the plain ones. -/
module

public import proofs.«01_k».proof.Proof.RefTerms
public import proofs.«01_k».proof.Proof.Spec

@[expose] public section

set_option maxRecDepth 16384

noncomputable section

namespace Cert.Proof.Ref

open Cert.ReferenceIdeal Cert.ReferenceIdeal.Gen Idealize.ShloMosaic Idealize.ShloMosaic.TcCoe Idealize.SL.Sem

/-- A head's column as a flat one. -/
abbrev hc (h : Fin 16) (d : Fin 64) : Fin 1024 := Spec.part (N := 1024) (m := 16) (n := 64) rfl h d

/-- The argument arrays, curried. -/
def args (x : FVec Ideal S4x4096x2048 .f32) (wq wk wg : FVec Ideal S2048x1024 .f32) (a : FVec Ideal S4x16x64 .f32) :
    Spec.Args where
  x b t j := x (ix3 b t j)
  wq j c := wq (ix2 j c)
  wk j c := wk (ix2 j c)
  wg j c := wg (ix2 j c)
  a r c := a (ix3 r ⟨c.val / 64, by omega⟩ ⟨c.val % 64, by omega⟩)

/-- The column of a column's head at an offset. -/
theorem headCol_hc (h : Fin 16) (d e : Fin 64) : Spec.headCol (hc h d) e = hc h e :=
  Fin.ext (by show (h.val * 64 + d.val) / 64 * 64 + e.val = h.val * 64 + e.val; omega)

/-- The normalization as both stages spell it. -/
theorem norm_hc (f : Fin 1024 → EReal) (h : Fin 16) (d : Fin 64) :
    f (hc h d) * Ideal.rsqrt (Ideal.div (∑ e, f (hc h e) * f (hc h e)) (Ideal.ofBits .f32 1115684864#32)
      + Ideal.ofBits .f32 897988541#32) = Spec.norm f (hc h d) := by
  rw [Spec.norm, Spec.bits_64, Ideal.div_coe (by norm_num : (64 : ℝ) ≠ 0)]
  simp only [headCol_hc]; rfl

/-- The reference's projections are the plain ones. -/
theorem projT_at (x w) (b : Fin 4) (t : Fin 4096) (h : Fin 16) (d : Fin 64) :
    projT x w (ix4 b t h d) = Spec.proj (fun j => x (ix3 b t j)) (fun j c => w (ix2 j c)) (hc h d) := by
  pointwise [projT]
  rfl

/-- Normalized queries of any projection. -/
theorem qnT_at (q) (f : Fin 4 → Fin 4096 → Fin 1024 → EReal) (hq : ∀ b t h d, q (ix4 b t h d) = f b t (hc h d))
    (b : Fin 4) (t : Fin 4096) (h : Fin 16) (d : Fin 64) : qnT q (ix4 b t h d) = Spec.norm (f b t) (hc h d) := by
  pointwise [qnT]
  simp only [hq]
  exact norm_hc _ h d

/-- Normalized keys of any pooled values. -/
theorem knT_at (k) (f : Fin 4 → Fin 1024 → Fin 1024 → EReal) (hk : ∀ b t h d, k (ix4 b t h d) = f b t (hc h d))
    (b : Fin 4) (t : Fin 1024) (h : Fin 16) (d : Fin 64) : knT k (ix4 b t h d) = Spec.norm (f b t) (hc h d) := by
  pointwise [knT]
  simp only [hk]
  exact norm_hc _ h d

/-- A gate score is a row's projection plus the bias. -/
theorem gateT_at (g a) (b : Fin 4) (t : Fin 1024) (r : Fin 4) (h : Fin 16) (d : Fin 64) :
    gateT g a (ix5 b t r h d) = g (ix4 b (Spec.row t r) h d) + a (ix3 r h d) := by
  pointwise [gateT]
  rfl

/-- The exponential of a gate score lowered by its group's largest. -/
theorem expT_at (s) (b : Fin 4) (t : Fin 1024) (r : Fin 4) (h : Fin 16) (d : Fin 64) :
    expT s (ix5 b t r h d) = Ideal.exp (s (ix5 b t r h d) - maxT s (ix4 b t h d)) := by
  pointwise [expT]

/-- A pooled value: the four values, each times its own quotient. -/
theorem poolT_at (k e) (b : Fin 4) (t : Fin 1024) (h : Fin 16) (d : Fin 64) :
    poolT k e (ix4 b t h d)
      = ∑ r, k (ix4 b (Spec.row t r) h d) * Ideal.div (e (ix5 b t r h d)) (∑ r', e (ix5 b t r' h d)) := by
  pointwise [poolT]
  rfl

/-- A maximum over reals, started from minus infinity, is real where something is reduced. -/
theorem reduce_max_real {s t u : Shape} {axes : List (Fin s.rank)} (x : FVec Ideal s .f32) (hx : ∀ i, Spec.IsReal (x i))
    (init : FVec Ideal u .f32) (h : s.ReducesTo axes t) (hu : 0 < u.numel) (hi : init (Shape.Idx.first hu) = (⊥ : EReal))
    (i : s.Idx) (j : t.Idx) (hj : h.drop i = j) : Spec.IsReal (Host.reduce FloatOps.maximumf x init h hu j : Ideal .f32) := by
  rw [Host.reduce_eq_fold, hi]
  exact Spec.IsReal.fold_max _ ⟨i, Finset.mem_filter.2 ⟨Finset.mem_univ _, hj⟩⟩ hx

/-- Its maximum with minus infinity as well. -/
theorem max_bot_real {s : Shape} (a b : FVec Ideal s .f32) (j : s.Idx) (ha : a j = (⊥ : EReal)) (hb : Spec.IsReal (b j)) :
    Spec.IsReal (maximumf a b j) := by
  show Spec.IsReal (max (a j) (b j))
  rw [ha, max_eq_right bot_le]; exact hb

/-- The position of row zero of a group drops to the group. -/
theorem drop_zero (b : Fin 4) (t : Fin 1024) (h : Fin 16) (d : Fin 64) :
    Shape.ReducesTo.drop reducesTo_S4x1024x4x16x64_S4x1024x16x64_d2 (ix5 b t 0 h d) = ix4 b t h d := by
  refine funext fun k => Fin.ext ?_
  fin_cases k
  · exact Shape.ReducesTo.drop_apply_val_of_eq reducesTo_S4x1024x4x16x64_S4x1024x16x64_d2 _ 0 (0 : Fin 5)
  · exact Shape.ReducesTo.drop_apply_val_of_eq reducesTo_S4x1024x4x16x64_S4x1024x16x64_d2 _ 1 (1 : Fin 5)
  · exact Shape.ReducesTo.drop_apply_val_of_eq reducesTo_S4x1024x4x16x64_S4x1024x16x64_d2 _ 2 (3 : Fin 5)
  · exact Shape.ReducesTo.drop_apply_val_of_eq reducesTo_S4x1024x4x16x64_S4x1024x16x64_d2 _ 3 (4 : Fin 5)

/-- The maximum of real gate scores is real. -/
theorem maxT_real (s) (hs : ∀ i, Spec.IsReal (s i)) (b : Fin 4) (t : Fin 1024) (h : Fin 16) (d : Fin 64) :
    Spec.IsReal (maxT s (ix4 b t h d)) := by
  unfold maxT
  exact max_bot_real _ _ _ Spec.bits_bot (reduce_max_real s hs _ _ _ Spec.bits_bot _ _ (drop_zero b t h d))

section

variable (x : FVec Ideal S4x4096x2048 .f32) (wq wk wg : FVec Ideal S2048x1024 .f32) (a : FVec Ideal S4x16x64 .f32)

/-- The reference's queries are the plain ones. -/
theorem query_at (b : Fin 4) (t : Fin 4096) (h : Fin 16) (d : Fin 64) :
    qnT (projT x wq) (ix4 b t h d) = Spec.query (args x wq wk wg a) b t (hc h d) :=
  qnT_at _ (fun b t => Spec.proj (fun j => x (ix3 b t j)) (fun j c => wq (ix2 j c))) (projT_at x wq) b t h d

/-- The reference's gate scores are the plain ones. -/
theorem gate_at (b : Fin 4) (t : Fin 1024) (r : Fin 4) (h : Fin 16) (d : Fin 64) :
    gateT (projT x wg) a (ix5 b t r h d) = Spec.gate (args x wq wk wg a) b t (hc h d) r := by
  rw [gateT_at, projT_at]
  refine congrArg (fun z => Spec.proj (fun j => x (ix3 b (Spec.row t r) j)) (fun j c => wg (ix2 j c)) (hc h d) + a z) ?_
  have e1 : (⟨(hc h d).val / 64, by have := (hc h d).isLt; omega⟩ : Fin 16) = h :=
    Fin.ext (by show (h.val * 64 + d.val) / 64 = h.val; omega)
  have e2 : (⟨(hc h d).val % 64, by omega⟩ : Fin 64) = d :=
    Fin.ext (by show (h.val * 64 + d.val) % 64 = d.val; omega)
  rw [e1, e2]

variable (hA : (args x wq wk wg a).Real)
include hA

/-- For real gate scores the reference's pooled keys are the plain ones. -/
theorem pooled_at (b : Fin 4) (t : Fin 1024) (h : Fin 16) (d : Fin 64) :
    poolT (projT x wk) (expT (gateT (projT x wg) a)) (ix4 b t h d) = Spec.pooled (args x wq wk wg a) b t (hc h d) := by
  rw [poolT_at]
  simp only [expT_at, gate_at x wq wk wg a, projT_at]
  refine Spec.pool_eq' (Spec.gate_real hA b t (hc h d)) (maxT_real _ (fun i => ?_) b t h d)
  obtain ⟨b', t', r', h', d', rfl⟩ : ∃ (b' : Fin 4) (t' : Fin 1024) (r' : Fin 4) (h' : Fin 16) (d' : Fin 64),
      i = ix5 b' t' r' h' d' := ⟨i 0, i 1, i 2, i 3, i 4, funext fun k => by fin_cases k <;> rfl⟩
  rw [gate_at x wq wk wg a]
  exact Spec.gate_real hA _ _ _ _

/-- For real gate scores the reference's keys are the plain ones. -/
theorem key_at (b : Fin 4) (t : Fin 1024) (h : Fin 16) (d : Fin 64) :
    keysT x wk wg a (ix4 b t h d) = Spec.key (args x wq wk wg a) b t (hc h d) :=
  knT_at _ (Spec.pooled (args x wq wk wg a)) (pooled_at x wq wk wg a hA) b t h d

end

/-! ### Scores -/

/-- A sum over columns is the sum over heads of the sums over their columns. -/
theorem sum_hc (F : Fin 1024 → EReal) : ∑ c, F c = ∑ h : Fin 16, ∑ d : Fin 64, F (hc h d) :=
  Spec.sum_parts (N := 1024) (m := 16) (n := 64) rfl F

/-- The reference's score is the plain one divided by 128. -/
theorem scoreT_at (q k) (f : Fin 4 → Fin 4096 → Fin 1024 → EReal) (e : Fin 4 → Fin 1024 → Fin 1024 → EReal)
    (hq : ∀ b t h d, q (ix4 b t h d) = f b t (hc h d)) (hk : ∀ b t h d, k (ix4 b t h d) = e b t (hc h d))
    (b : Fin 4) (t : Fin 4096) (g : Fin 1024) :
    scoreT q k (ix3 b t g) = (∑ c, f b t c * e b g c) * ((1 / 128 : ℝ) : EReal) := by
  pointwise [scoreT]
  simp only [hq, hk]
  rw [Spec.bits_16, Spec.bits_8th, Ideal.div_coe (by norm_num : (16 : ℝ) ≠ 0), sum_hc,
    ← Spec.sum_mul_pos _ _ (by norm_num : (0 : ℝ) < 1 / 8), mul_assoc, ← EReal.coe_mul]
  norm_num

/-- The precondition's score is the plain one. -/
theorem cond_scoreT_at (q k) (f : Fin 4 → Fin 4096 → Fin 1024 → EReal) (e : Fin 4 → Fin 1024 → Fin 1024 → EReal)
    (hq : ∀ b t h d, q (ix4 b t h d) = f b t (hc h d)) (hk : ∀ b t h d, k (ix4 b t h d) = e b t (hc h d))
    (b : Fin 4) (t : Fin 4096) (g : Fin 1024) :
    Cond.scoreT q k (ix3 b t g) = ∑ c, f b t c * e b g c := by
  pointwise [Cond.scoreT]
  simp only [hq, hk]
  rw [sum_hc, Finset.sum_comm]

/-- The causal mask's word comparison. -/
theorem seen_word (t : Fin 4096) (g : Fin 1024) :
    IntOp.cmpi .sle (IntOp.minsi (IntOp.addi 3#32 (IntOp.muli 4#32 (BitVec.ofNat 32 g.val))) 4095#32)
      (BitVec.ofNat 32 t.val) = BitVec.ofBool (decide (Spec.seen t g)) := by
  have e1 : ∀ g : Fin 1024, IntOp.minsi (IntOp.addi 3#32 (IntOp.muli 4#32 (BitVec.ofNat 32 g.val))) 4095#32
      = BitVec.ofNat 32 (4 * g.val + 3) := by
    decide +kernel
  rw [e1]
  have hg := g.isLt; have ht := t.isLt
  have : (BitVec.ofNat 32 (4 * g.val + 3)).sle (BitVec.ofNat 32 t.val) = decide (4 * g.val + 3 ≤ t.val) := by
    rw [BitVec.sle_eq_decide]
    have a1 : (BitVec.ofNat 32 (4 * g.val + 3)).toInt = 4 * g.val + 3 := by
      rw [BitVec.toInt_eq_toNat_of_lt] <;> simp [BitVec.toNat_ofNat] <;> omega
    have a2 : (BitVec.ofNat 32 t.val).toInt = t.val := by
      rw [BitVec.toInt_eq_toNat_of_lt] <;> simp [BitVec.toNat_ofNat] <;> omega
    rw [a1, a2]
    exact decide_eq_decide.2 (by omega)
  simp only [IntOp.cmpi, this]; rfl

/-- The causal mask is true where the group is seen. -/
theorem causalT_at (t : Fin 4096) (g : Fin 1024) :
    causalT (ix3 0 t g) = BitVec.ofBool (decide (Spec.seen t g)) := by
  pointwise [causalT, endsT]
  exact seen_word t g

/-- Masked scores are minus infinity where the group is not seen. -/
theorem maskedT_at (s) (b : Fin 4) (t : Fin 4096) (g : Fin 1024) :
    maskedT s (ix3 b t g) = if Spec.seen t g then s (ix3 b t g) else ⊥ := by
  have e : maskedT s (ix3 b t g) = Scalar.select (causalT (ix3 0 t g)) (s (ix3 b t g))
      (Ideal.ofBits .f32 4286578688#32) := by
    pointwise [maskedT, causalT, endsT]
    rfl
  rw [e, causalT_at, Spec.bits_bot]
  by_cases h : Spec.seen t g <;> simp [Scalar.select, h]

end Cert.Proof.Ref

end
-- ==== Proof.RefMask.lean ====
/- The reference's mask of the eight largest, and the precondition's condition on the nine largest, read at a row through
   the order the sort puts that row in. -/
module

public import proofs.«01_k».proof.Proof.RefTerms
public import proofs.«01_k».proof.Proof.Spec
public import Idealize.ShloMosaic.Lib.SortFacts
public import Idealize.ShloMosaic.Lib.Routing.OpsSet
public import Idealize.ShloMosaic.Lib.Routing.OpsPair

@[expose] public section

set_option maxRecDepth 16384

noncomputable section

namespace Cert.Proof.Ref

open Cert.ReferenceIdeal Cert.ReferenceIdeal.Gen Idealize.ShloMosaic Idealize.ShloMosaic.TcCoe Idealize.SL.Sem

/-! ### The order of a row -/

/-- The places of a row, its larger entries first. -/
def rank (f : Fin 1024 → EReal) : Fin 1024 → Fin 1024 := sortedFrom fun k k' => decide (f k' < f k)

/-- The comparison the programs sort by. -/
theorem gt_bit (a b : Ideal .f32) :
    (FloatOps.cmpfTotal (F := Ideal) .gt a b == 1#1) = decide ((b : EReal) < a) := by
  show (BitVec.ofBool (decide ((b : EReal) < a)) == 1#1) = _
  by_cases h : (b : EReal) < a <;> simp [h]

/-- Each place of the sorted row holds one index. -/
theorem rank_bijective (f : Fin 1024 → EReal) : Function.Bijective (rank f) :=
  ⟨sortedFrom_injective _, sortedFrom_surjective _⟩

/-- Later places hold entries no larger. -/
theorem rank_anti (f : Fin 1024 → EReal) (i j : Fin 1024) (h : i < j) : f (rank f j) ≤ f (rank f i) := by
  have := sortedFrom_noInversion (fun k k' => decide (f k' < f k)) (fun k k' => decide (f k' < f k))
    (fun a b h => by simp only [decide_eq_true_eq, decide_eq_false_iff_not] at h ⊢; exact h.asymm) (fun _ _ h => h)
    (fun a b c h₁ h₂ => by
      simp only [decide_eq_false_iff_not, not_lt] at h₁ h₂ ⊢; exact h₁.trans h₂) i j h
  exact not_lt.1 (of_decide_eq_false this)

/-- Rows ordered alike have the same places. -/
theorem rank_congr {f f' : Fin 1024 → EReal} (h : ∀ k k', f k' < f k ↔ f' k' < f' k) : rank f = rank f' :=
  sortedFrom_congr _ _ fun k k' _ => decide_eq_decide.2 (h k k')

/-- Moving along a row changes the last coordinate. -/
theorem along_ix3 (b : Fin 4) (t : Fin 4096) (j k : Fin 1024) :
    Shape.Idx.along (s := S4x4096x1024) (ix3 b t j) (2 : Fin 3) k = ix3 b t k := by
  funext a
  fin_cases a
  · exact Function.update_of_ne (by decide) _ _
  · exact Function.update_of_ne (by decide) _ _
  · exact Function.update_self _ _ _

/-- The sort of a row, its places and its values. -/
theorem sort2_at (s : FVec Ideal S4x4096x1024 .f32) (y : IVec S4x4096x1024 32) (b : Fin 4) (t : Fin 4096) (j : Fin 1024) :
    Host.sort2 S4x4096x1024 2 (fun l r => FloatOps.cmpfTotal (F := Ideal) .gt l.1 r.1) s y
      = (fun i => s (i.along (2 : Fin 3) (rank (fun k => s (i.along (2 : Fin 3) k)) (i 2))),
         fun i => y (i.along (2 : Fin 3) (rank (fun k => s (i.along (2 : Fin 3) k)) (i 2)))) := by
  have h : (2 : ℕ) < S4x4096x1024.rank := by decide
  unfold Host.sort2
  rw [dif_pos h]
  simp only [gt_bit]
  rfl

/-- The places of the eight largest are the first eight of the row's order. -/
theorem topT_at (s) (b : Fin 4) (t : Fin 4096) (j : Fin 8) :
    topT s (ix3 b t j) = BitVec.ofNat 32 (rank (fun k => s (ix3 b t k)) ⟨j.val, by omega⟩).val := by
  pointwise [topT, Host.topK]
  rw [sort2_at s _ b t ⟨j.val, by omega⟩]
  simp only [along_ix3]
  rfl

/-- A selected index with its batch and position. -/
theorem placesT_at (i) (b : Fin 4) (t : Fin 4096) (j : Fin 8) (v : Fin 1024) (hv : i (ix3 b t j) = BitVec.ofNat 32 v.val) :
    placesT i (ix4 b t j 0) = BitVec.ofNat 32 b.val ∧ placesT i (ix4 b t j 1) = BitVec.ofNat 32 t.val
      ∧ placesT i (ix4 b t j 2) = BitVec.ofNat 32 v.val := by
  have w : ∀ (n : ℕ) (a : BitVec 32), n < 4096 →
      Scalar.select (IntOp.cmpi .slt (BitVec.ofNat 32 n) 0#32) a (BitVec.ofNat 32 n) = BitVec.ofNat 32 n := fun n a h =>
    Routing.wrap_of_lt _ _ (by simp only [BitVec.toNat_ofNat]; omega)
  refine ⟨?_, ?_, ?_⟩
  · pointwise [placesT]
    exact w _ _ (by omega)
  · pointwise [placesT]
    exact w _ _ (by omega)
  · pointwise [placesT]
    rw [hv]
    exact w _ _ (by omega)

/-- Where an update of the scatter reads its place, component by component. -/
theorem start_at (p : IVec S4x4096x8x3 32) (b : Fin 4) (t : Fin 4096) (j : Fin 8) (a : Fin 3) :
    scatter_S4x4096x1024_S4x4096x8x3_S4x4096x8_n_012_012_3.start (ix3 b t j) p a = (p (ix4 b t j a)).toInt := by
  have h : ∀ (ha : a ∈ scatter_S4x4096x1024_S4x4096x8x3_S4x4096x8_n_012_012_3.scatterDimsToOperandDims),
      scatter_S4x4096x1024_S4x4096x8x3_S4x4096x8_n_012_012_3.siIdx (ix3 b t j)
        ⟨_, List.idxOf_lt_length_iff.2 ha⟩ = ix4 b t j a := fun ha => by
    funext k
    fin_cases a <;> fin_cases k <;> rfl
  have hm : a ∈ scatter_S4x4096x1024_S4x4096x8x3_S4x4096x8_n_012_012_3.scatterDimsToOperandDims := by
    fin_cases a <;> decide
  unfold ScatterDims.start
  rw [dif_pos hm, h hm]

/-- The scatter writes single elements: its window adds nothing to a place. -/
theorem window_at (b : Fin 4) (t : Fin 4096) (j : Fin 8) (a : Fin 3) :
    scatter_S4x4096x1024_S4x4096x8x3_S4x4096x8_n_012_012_3.window (ix3 b t j) a = 0 := by
  unfold ScatterDims.window
  rw [dif_neg (by fin_cases a <;> decide)]

/-- Update `(b, t, j)` lands where its three words say. -/
theorem lands_at (p : IVec S4x4096x8x3 32) (b b' : Fin 4) (t t' : Fin 4096) (j : Fin 8) (g : Fin 1024) :
    scatter_S4x4096x1024_S4x4096x8x3_S4x4096x8_n_012_012_3.resultIdx? (ix3 b' t' j) p = some (ix3 b t g)
      ↔ (p (ix4 b' t' j 0)).toInt = b.val ∧ (p (ix4 b' t' j 1)).toInt = t.val ∧ (p (ix4 b' t' j 2)).toInt = g.val := by
  rw [Routing.resultIdx?_eq_some]
  have e : ∀ a : Fin 3, (scatter_S4x4096x1024_S4x4096x8x3_S4x4096x8_n_012_012_3.start (ix3 b' t' j) p a
      + (scatter_S4x4096x1024_S4x4096x8x3_S4x4096x8_n_012_012_3.window (ix3 b' t' j) a : Int))
        = (p (ix4 b' t' j a)).toInt := fun a => by rw [start_at, window_at]; exact Int.add_zero _
  constructor
  · intro h
    exact ⟨(e 0).symm.trans (h 0), (e 1).symm.trans (h 1), (e 2).symm.trans (h 2)⟩
  · rintro ⟨h0, h1, h2⟩ a
    refine (e a).trans ?_
    fin_cases a
    · exact h0
    · exact h1
    · exact h2

/-- The mark is set exactly at the places given. -/
theorem markT_at (p) (v : Fin 4 → Fin 4096 → Fin 8 → Fin 1024)
    (h0 : ∀ b t j, p (ix4 b t j 0) = BitVec.ofNat 32 b.val) (h1 : ∀ b t j, p (ix4 b t j 1) = BitVec.ofNat 32 t.val)
    (h2 : ∀ b t j, p (ix4 b t j 2) = BitVec.ofNat 32 (v b t j).val) (b : Fin 4) (t : Fin 4096) (g : Fin 1024) :
    markT p (ix3 b t g) = BitVec.ofBool (decide (∃ j, v b t j = g)) := by
  have small : ∀ n : ℕ, n < 4096 → (BitVec.ofNat 32 n).toInt = n := fun n hn => by
    rw [BitVec.toInt_eq_toNat_of_lt] <;> simp only [BitVec.toNat_ofNat] <;> omega
  have lands : ∀ b' t' j, scatter_S4x4096x1024_S4x4096x8x3_S4x4096x8_n_012_012_3.resultIdx? (ix3 b' t' j) p
      = some (ix3 b t g) ↔ b' = b ∧ t' = t ∧ v b' t' j = g := fun b' t' j => by
    rw [lands_at, h0, h1, h2, small _ (by omega), small _ (by omega), small _ (by omega)]
    simp only [Nat.cast_inj, Fin.ext_iff]
  unfold markT
  by_cases h : ∃ j, v b t j = g
  · obtain ⟨j, hj⟩ := h
    rw [decide_eq_true ⟨j, hj⟩]
    exact Routing.scatter_set_hit _ _ p _ _ _ (fun _ _ => rfl) (ix3 b t j) ((lands b t j).2 ⟨rfl, rfl, hj⟩)
  · rw [decide_eq_false h]
    refine (Routing.scatter_set_miss _ _ p _ _ fun k hk => ?_).trans rfl
    obtain ⟨b', t', j', rfl⟩ : ∃ (b' : Fin 4) (t' : Fin 4096) (j' : Fin 8), k = ix3 b' t' j' :=
      ⟨k 0, k 1, k 2, funext fun a => by fin_cases a <;> rfl⟩
    obtain ⟨rfl, rfl, e⟩ := (lands _ _ _).1 hk
    exact h ⟨j', e⟩

/-- The reference's first result is on exactly at the seen groups among the first eight of the row's order. -/
theorem maskT_at (s) (hc : ∀ t g, causalT (ix3 0 t g) = BitVec.ofBool (decide (Spec.seen t g)))
    (b : Fin 4) (t : Fin 4096) (g : Fin 1024) :
    maskT s (ix3 b t g)
      = BitVec.ofBool (decide ((∃ j : Fin 8, rank (fun k => s (ix3 b t k)) ⟨j.val, by omega⟩ = g) ∧ Spec.seen t g)) := by
  have e : maskT s (ix3 b t g) = IntOp.andi (markT (placesT (topT s)) (ix3 b t g)) (causalT (ix3 0 t g)) := by
    pointwise [maskT]
  rw [e, hc, markT_at (placesT (topT s)) (fun b t j => rank (fun k => s (ix3 b t k)) ⟨j.val, by omega⟩)
    (fun b t j => (placesT_at _ b t j _ (topT_at s b t j)).1) (fun b t j => (placesT_at _ b t j _ (topT_at s b t j)).2.1)
    (fun b t j => (placesT_at _ b t j _ (topT_at s b t j)).2.2)]
  by_cases h₁ : ∃ j : Fin 8, rank (fun k => s (ix3 b t k)) ⟨j.val, by omega⟩ = g <;> by_cases h₂ : Spec.seen t g <;>
    simp [h₁, h₂, IntOp.andi]

end Cert.Proof.Ref

namespace Cert.Proof.Cond

open Cert.Pre_finite_and_no_tie Cert.Pre_finite_and_no_tie.Gen Idealize.ShloMosaic Idealize.SL.Sem

local instance : Cert.Pre_finite_and_no_tie.Facts := Cert.Pre_finite_and_no_tie.Gen.facts

/-- The nine largest of a row in its order. -/
theorem nineT_at (s) (b : Fin 4) (t : Fin 4096) (j : Fin 9) :
    nineT s (ix3 b t j) = s (ix3 b t (Ref.rank (fun k => s (ix3 b t k)) ⟨j.val, by omega⟩)) := by
  pointwise [nineT, Host.topK]
  erw [Ref.sort2_at s _ b t ⟨j.val, by omega⟩]
  simp only [Ref.along_ix3]
  rfl

/-- A conjunction of bits is on only if every bit is. -/
theorem fold_andi {ι : Type*} (s : Finset ι) (f : ι → BitVec 1) (h : s.fold IntOp.andi 1#1 f = 1#1) :
    ∀ i ∈ s, f i = 1#1 := by
  classical
  have key : ∀ a b : BitVec 1, IntOp.andi a b = 1#1 → a = 1#1 ∧ b = 1#1 := by decide
  induction s using Finset.induction_on with
  | empty => intro i hi; exact absurd hi (Finset.notMem_empty i)
  | insert a s ha ih =>
    rw [Finset.fold_insert ha] at h
    intro i hi
    rcases Finset.mem_insert.1 hi with rfl | hi
    · exact (key _ _ h).1
    · exact ih (key _ _ h).2 i hi

/-- Where the condition holds, the row's nine largest are strictly decreasing or the ninth is minus infinity. -/
theorem noTieT_at (v) (b : Fin 4) (t : Fin 4096) (h : noTieT v (ix2 b t) = 1#1) :
    v (ix3 b t 8) = (⊥ : EReal)
      ∨ ∀ r : Fin 8, (v (ix3 b t ⟨r.val + 1, by omega⟩) : EReal) < v (ix3 b t ⟨r.val, by omega⟩) := by
  revert h
  pointwise [noTieT]
  intro h
  have key : ∀ a b : BitVec 1, IntOp.ori a b = 1#1 → a = 1#1 ∨ b = 1#1 := by decide
  have bit : ∀ (q : Prop) [Decidable q], BitVec.ofBool (decide q) = 1#1 → q := fun q _ h => by
    by_contra hq; rw [decide_eq_false hq] at h; exact absurd h (by decide)
  rcases key _ _ h with h | h
  · refine .inr fun r => ?_
    have := bit _ (fold_andi _ _ h r (Finset.mem_univ r))
    rwa [show (⟨r.val + 1, by omega⟩ : Fin 9) = ⟨1 + r.val, by omega⟩ from Fin.ext (Nat.add_comm _ _)]
  · exact .inl ((bit _ h).trans Spec.bits_bot)

end Cert.Proof.Cond

end
-- ==== Proof.RefValue.lean ====
/- The reference's first result for real arguments without a tie: a seen group is on exactly when its score reaches what is
   left as the row's maximum after seven rounds of striking out the maximum. -/
module

public import proofs.«01_k».proof.Proof.TopMath
public import proofs.«01_k».proof.Proof.RefScores
public import proofs.«01_k».proof.Proof.RefMask

@[expose] public section

set_option maxRecDepth 16384

noncomputable section

namespace Cert.Proof.Ref

open Cert.ReferenceIdeal Cert.ReferenceIdeal.Gen Idealize.ShloMosaic Idealize.ShloMosaic.TcCoe Idealize.SL.Sem

local instance : Cert.Pre_finite_and_no_tie.Facts := Cert.Pre_finite_and_no_tie.Gen.facts

/-- The bit both programs compute for a position and a group. -/
def bit (A : Spec.Args) (b : Fin 4) (t : Fin 4096) (g : Fin 1024) : BitVec 1 :=
  BitVec.ofBool (decide (Spec.seen t g
    ∧ Top.rowMax (Top.rounds (Spec.masked A b t) 7) ≤ Spec.masked A b t g))

/-- Dividing real scores by 128 keeps the order of a masked row. -/
theorem scaled_lt {p q : Prop} [Decidable p] [Decidable q] {x y : EReal} (hx : Spec.IsReal x) (hy : Spec.IsReal y) :
    (if p then x * ((1 / 128 : ℝ) : EReal) else ⊥) < (if q then y * ((1 / 128 : ℝ) : EReal) else ⊥)
      ↔ (if p then x else ⊥) < (if q then y else ⊥) := by
  obtain ⟨a, rfl⟩ := hx; obtain ⟨c, rfl⟩ := hy
  by_cases hp : p <;> by_cases hq : q <;> simp only [hp, hq, if_true, if_false, ← EReal.coe_mul]
  · rw [EReal.coe_lt_coe_iff, EReal.coe_lt_coe_iff]
    constructor <;> intro h <;> linarith
  · exact iff_of_false not_lt_bot not_lt_bot
  · exact iff_of_true (EReal.bot_lt_coe _) (EReal.bot_lt_coe _)

variable (x : FVec Ideal S4x4096x2048 .f32) (wq wk wg : FVec Ideal S2048x1024 .f32) (a : FVec Ideal S4x16x64 .f32)

/-- The precondition says that what the gate scores are computed from is real. -/
theorem args_real (h : ∀ i, (Cert.Pre_finite_and_no_tie.fn (F := Ideal) x wq wk wg a).1 i = 1#1)
    (hg : ∀ i, (Cert.Pre_finite_and_no_tie.fn (F := Ideal) x wq wk wg a).2.1 i = 1#1)
    (ha : ∀ i, (Cert.Pre_finite_and_no_tie.fn (F := Ideal) x wq wk wg a).2.2.1 i = 1#1) :
    (args x wq wk wg a).Real := by
  have key : ∀ (v : EReal), BitVec.ofBool (decide (max v (-v) < Ideal.ofBits .f32 2139095040#32)) = 1#1 → Spec.IsReal v := by
    intro v hv
    by_contra hn
    rw [decide_eq_false (fun hlt => hn (Spec.IsReal.of_abs (by rwa [Spec.bits_top] at hlt)))] at hv
    exact absurd hv (by decide)
  rw [Cond.fn_x] at h; rw [Cond.fn_wg] at hg; rw [Cond.fn_a] at ha
  exact ⟨fun b t j => key _ (h (ix3 b t j)), fun j c => key _ (hg (ix2 j c)), fun r c => key _ (ha (ix3 r _ _))⟩

variable (hA : (args x wq wk wg a).Real)
include hA

/-- The reference's masked scores are the plain ones divided by 128. -/
theorem masked_ref (b : Fin 4) (t : Fin 4096) (g : Fin 1024) :
    maskedT (scoreT (qnT (projT x wq)) (keysT x wk wg a)) (ix3 b t g)
      = if Spec.seen t g then Spec.score (args x wq wk wg a) b t g * ((1 / 128 : ℝ) : EReal) else ⊥ := by
  rw [maskedT_at, scoreT_at _ _ _ _ (query_at x wq wk wg a) (key_at x wq wk wg a hA)]; rfl

/-- The precondition's masked scores are the plain ones. -/
theorem masked_cond (b : Fin 4) (t : Fin 4096) (g : Fin 1024) :
    maskedT (Cond.scoreT (qnT (projT x wq)) (keysT x wk wg a)) (ix3 b t g) = Spec.masked (args x wq wk wg a) b t g := by
  rw [maskedT_at, cond_scoreT_at _ _ _ _ (query_at x wq wk wg a) (key_at x wq wk wg a hA)]; rfl

/-- The reference's first result under the precondition. -/
theorem mask_value (hn : ∀ i, (Cert.Pre_finite_and_no_tie.fn (F := Ideal) x wq wk wg a).2.2.2 i = 1#1)
    (b : Fin 4) (t : Fin 4096) (g : Fin 1024) :
    maskT (maskedT (scoreT (qnT (projT x wq)) (keysT x wk wg a))) (ix3 b t g) = bit (args x wq wk wg a) b t g := by
  have hr : rank (fun k => maskedT (scoreT (qnT (projT x wq)) (keysT x wk wg a)) (ix3 b t k))
      = rank (Spec.masked (args x wq wk wg a) b t) := by
    simp only [masked_ref x wq wk wg a hA]
    exact rank_congr fun k k' => scaled_lt (Spec.score_real b t k') (Spec.score_real b t k)
  rw [maskT_at _ causalT_at, hr, bit]
  have hh := Cond.noTieT_at _ b t ((congrFun (Cond.fn_noTie x wq wk wg a).symm (ix2 b t)).trans (hn (ix2 b t)))
  simp only [Cond.nineT_at, masked_cond x wq wk wg a hA] at hh
  refine congrArg BitVec.ofBool (decide_eq_decide.2 ?_)
  rw [and_comm]
  refine and_congr_right fun hs => ?_
  rw [Top.threshold_iff (Spec.masked (args x wq wk wg a) b t) (rank (Spec.masked (args x wq wk wg a) b t))
    (rank_bijective _) (rank_anti _) (by norm_num) ?_ g ?_]
  · constructor
    · rintro ⟨j, hj⟩; exact ⟨⟨j.val, by omega⟩, j.isLt, hj⟩
    · rintro ⟨j, hj, e⟩; exact ⟨⟨j.val, hj⟩, e⟩
  · rcases hh with h | h
    · exact .inl h
    · exact .inr fun r hr => h ⟨r, hr⟩
  · rw [Spec.masked, if_pos hs]; exact (Spec.score_real b t g).ne_bot

end Cert.Proof.Ref

end
-- ==== Proof.KernelRun.lean ====
/- The idealized kernel's run, read at its two results as well as at its arguments: what the launch's final memory holds
   at the mask and at the group ends is the fold of the segments (`Gen.W4`) at those references. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the two results at the last segment boundary's contents and with the arguments as launched. -/
theorem run_results : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v11 (by decide)), h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Gen

end
-- ==== Proof.KernelProj.lean ====
/- The first call's block values read at an index: the projections, their normalization head by head, and the pooling of
   each four rows. -/
module

public import proofs.«01_k».proof.Proof.Gen.KernelIdeal.Skeleton
public import proofs.«01_k».proof.Proof.Spec

@[expose] public section

set_option maxRecDepth 16384

noncomputable section

namespace Cert.KernelIdeal.Gen

open Idealize.ShloMosaic Idealize.SL.Sem Cert.Proof

/-! ### The words of a column's head and a row's group -/

/-- The kernel's word for the quotient of `w` by `d`, rounded down. -/
abbrev floorWord (d w : BitVec 32) : BitVec 32 :=
  Scalar.select (IntOp.andi (IntOp.cmpi .ne (IntOp.subi (BitVec.setWidth 32 (IntOp.cmpi .sgt w 0#32))
      (BitVec.setWidth 32 (IntOp.cmpi .slt w 0#32)))
      (Scalar.subi (Scalar.extui (Scalar.cmpi .sgt d 0#32)) (Scalar.extui (Scalar.cmpi .slt d 0#32))))
      (IntOp.cmpi .ne (IntOp.remsi ArithUnit.vector w d) 0#32))
    (IntOp.subi (IntOp.divsi ArithUnit.vector w d) 1#32) (IntOp.divsi ArithUnit.vector w d)

/-- A column's word divided by 64, rounded down, is the word of its head. -/
theorem floor64 : ∀ c : Fin 1024, floorWord 64#32 (BitVec.ofNat 32 c.val) = BitVec.ofNat 32 (c.val / 64) := by
  decide +kernel

/-- A row's word divided by 4, rounded down, is the word of its group. -/
theorem floor4 : ∀ c : Fin 256, floorWord 4#32 (BitVec.ofNat 32 c.val) = BitVec.ofNat 32 (c.val / 4) := by
  decide +kernel

/-- One where column `c` lies in head `h`, zero elsewhere; -/
theorem head_word (c : Fin 1024) (h : Fin 16) :
    FloatOps.sitofp (F := Ideal) .f32 (BitVec.setWidth 32 (IntOp.cmpi .eq (floorWord 64#32 (BitVec.ofNat 32 c.val))
      (BitVec.ofNat 32 h.val))) = if c.val / 64 = h.val then (1 : EReal) else 0 := by
  rw [Spec.eq_word, floor64]
  simp only [Spec.word_inj (a := c.val / 64) (b := h.val) (by omega) (by omega)]

/-- the same with the sides exchanged; -/
theorem head_word' (c : Fin 1024) (h : Fin 16) :
    FloatOps.sitofp (F := Ideal) .f32 (BitVec.setWidth 32 (IntOp.cmpi .eq (BitVec.ofNat 32 h.val)
      (floorWord 64#32 (BitVec.ofNat 32 c.val)))) = if h.val = c.val / 64 then (1 : EReal) else 0 := by
  rw [Spec.eq_word, floor64]
  simp only [Spec.word_inj (a := h.val) (b := c.val / 64) (by omega) (by omega)]

/-- and one where row `x` lies in group `i`. -/
theorem group_word (x : Fin 256) (i : Fin 64) :
    FloatOps.sitofp (F := Ideal) .f32 (BitVec.setWidth 32 (IntOp.cmpi .eq (BitVec.ofNat 32 i.val)
      (floorWord 4#32 (BitVec.ofNat 32 x.val)))) = if x.val / 4 = i.val then (1 : EReal) else 0 := by
  rw [Spec.eq_word, floor4]
  simp only [Spec.word_inj (a := i.val) (b := x.val / 4) (by omega) (by omega), eq_comm]

/-! ### Normalization -/

/-- Sums of squares gathered per head and spread back over the head's columns give the normalization. -/
theorem norm_of (f : Fin 1024 → EReal) (c : Fin 1024) :
    f c * Ideal.rsqrt ((∑ h : Fin 16, (∑ c' : Fin 1024, f c' * f c' * (if c'.val / 64 = h.val then (1 : EReal) else 0))
      * (if h.val = c.val / 64 then (1 : EReal) else 0)) * Ideal.ofBits .f32 1015021568#32
        + Ideal.ofBits .f32 897988541#32) = Spec.norm f c := by
  have e1 : ∀ h : Fin 16, ∑ c' : Fin 1024, f c' * f c' * (if c'.val / 64 = h.val then (1 : EReal) else 0)
      = ∑ d : Fin 64, f (Spec.part (N := 1024) (m := 16) (n := 64) rfl h d)
          * f (Spec.part (N := 1024) (m := 16) (n := 64) rfl h d) := fun h =>
    Spec.sum_pick_part (N := 1024) (m := 16) (n := 64) rfl (fun c' => f c' * f c') h
  simp only [e1]
  rw [Spec.sum_pick (fun h : Fin 16 => ∑ d : Fin 64, f (Spec.part (N := 1024) (m := 16) (n := 64) rfl h d)
          * f (Spec.part (N := 1024) (m := 16) (n := 64) rfl h d)) ⟨c.val / 64, by omega⟩, Spec.bits_64th]
  rfl

/-- The first projection of a block. -/
theorem pay3_at (x : FVec Ideal S1x512x2048 .f32) (w : FVec Ideal S2048x1024 .bf16) (i : Fin 512) (c : Fin 1024) :
    k0_pay3 (F := Ideal) x w (ix2 i c) = Spec.proj (fun j => x (ix3 0 i j)) (fun j c => w (ix2 j c)) c := by
  pointwise [k0_pay3, k0_pay2]
  rfl

/-- Its sums of squares per head. -/
theorem pay4_at (x : FVec Ideal S1x512x2048 .f32) (w : FVec Ideal S2048x1024 .bf16) (i : Fin 512) (h : Fin 16) :
    k0_pay4 (F := Ideal) x w (ix2 i h) = ∑ c : Fin 1024, k0_pay3 (F := Ideal) x w (ix2 i c) * k0_pay3 (F := Ideal) x w (ix2 i c)
      * (if c.val / 64 = h.val then (1 : EReal) else 0) := by
  pointwise [k0_pay4]
  simp only [head_word]

/-- The normalized queries of a block. -/
theorem pay7_at (x : FVec Ideal S1x512x2048 .f32) (w : FVec Ideal S2048x1024 .bf16) (i : Fin 512) (c : Fin 1024) :
    k0_pay7 (F := Ideal) (k0_pay3 x w) (k0_pay4 x w) (iota .tc S16x1024 32 [0] iota_S16x1024_d0_w32)
        (iota .tc S16x1024 32 [1] iota_S16x1024_d1_w32) 64#32 k0_pay5 k0_pay6 (ix3 0 i c)
      = Spec.norm (Spec.proj (fun j => x (ix3 0 i j)) (fun j c => w (ix2 j c))) c := by
  pointwise [k0_pay7, k0_pay5, k0_pay6]
  simp only [head_word', pay4_at, pay3_at]
  exact norm_of _ c

/-! ### Pooling -/

/-- The second projection of a block, of its rows cast down; -/
theorem pay8_at (x : FVec Ideal S1x512x2048 .f32) (w : FVec Ideal S2048x1024 .bf16) (i : Fin 512) (c : Fin 1024) :
    k0_pay8 (F := Ideal) (k0_pay2 x) w (ix2 i c) = Spec.proj (fun j => x (ix3 0 i j)) (fun j c => w (ix2 j c)) c := by
  pointwise [k0_pay8, k0_pay2]
  rfl

/-- and the third. -/
theorem pay9_at (x : FVec Ideal S1x512x2048 .f32) (w : FVec Ideal S2048x1024 .bf16) (i : Fin 512) (c : Fin 1024) :
    k0_pay9 (F := Ideal) (k0_pay2 x) w (ix2 i c) = Spec.proj (fun j => x (ix3 0 i j)) (fun j c => w (ix2 j c)) c := by
  pointwise [k0_pay9, k0_pay2]
  rfl

/-- A block's largest gate score. -/
def blockMax (g a : FVec Ideal S512x1024 .f32) : EReal :=
  Finset.univ.fold max (Ideal.ofBits .f32 4286578688#32) (fun x : Fin 512 × Fin 1024 => g (ix2 x.1 x.2) + a (ix2 x.1 x.2))

/-- The exponentials in the first half of the columns, -/
theorem pay11_lo (k g a : FVec Ideal S512x1024 .f32) (i : Fin 512) (c : Fin 1024) (h : c.val < 2048) :
    k0_pay11 (F := Ideal) k g a (ix2 i ⟨c.val, h⟩) = Ideal.exp (g (ix2 i c) + a (ix2 i c) - blockMax g a) := by
  pointwise [k0_pay11]
  rfl

/-- and their products with the values in the second. -/
theorem pay11_hi (k g a : FVec Ideal S512x1024 .f32) (i : Fin 512) (c : Fin 1024) (h : 1024 + c.val < 2048) :
    k0_pay11 (F := Ideal) k g a (ix2 i ⟨1024 + c.val, h⟩)
      = Ideal.exp (g (ix2 i c) + a (ix2 i c) - blockMax g a) * k (ix2 i c) := by
  pointwise [k0_pay11]
  rfl

/-- A sum over a run of 256 rows weighted by "lies in group `i`" is the sum over the group's four rows. -/
theorem sum_group (F : Fin 256 → EReal) (i : Fin 64) :
    ∑ x : Fin 256, (if x.val / 4 = i.val then (1 : EReal) else 0) * F x
      = ∑ r : Fin 4, F ⟨i.val * 4 + r.val, by omega⟩ := by
  simp only [mul_comm (ite _ _ _)]
  exact Spec.sum_pick_part (N := 256) (m := 64) (n := 4) rfl F i

/-- The first 64 groups' pooled values. -/
theorem pay12_at (k g a : FVec Ideal S512x1024 .f32) (i : Fin 64) (c : Fin 1024) :
    k0_pay12 (F := Ideal) k g a (ix2 i c)
      = Ideal.div (∑ r : Fin 4, k0_pay11 (F := Ideal) k g a (ix2 ⟨i.val * 4 + r.val, by omega⟩ ⟨1024 + c.val, by omega⟩) : EReal)
          (∑ r : Fin 4, k0_pay11 (F := Ideal) k g a (ix2 ⟨i.val * 4 + r.val, by omega⟩ ⟨c.val, by omega⟩) : EReal) := by
  pointwise [k0_pay12, k0_pay10]
  simp only [group_word]
  exact congrArg₂ Ideal.div
    (sum_group (fun x => k0_pay11 (F := Ideal) k g a (ix2 ⟨x.val, by omega⟩ ⟨1024 + c.val, by omega⟩)) i)
    (sum_group (fun x => k0_pay11 (F := Ideal) k g a (ix2 ⟨x.val, by omega⟩ ⟨c.val, by omega⟩)) i)

/-- The last 64 groups' sums, of weights and of weighted values. -/
theorem pay13_at (k g a : FVec Ideal S512x1024 .f32) (i : Fin 64) (h : Fin 2048) :
    k0_pay13 (F := Ideal) k g a (ix2 i h)
      = (∑ r : Fin 4, k0_pay11 (F := Ideal) k g a (ix2 ⟨256 + (i.val * 4 + r.val), by omega⟩ h) : EReal) := by
  pointwise [k0_pay13, k0_pay10]
  simp only [group_word]
  exact sum_group (fun x => k0_pay11 (F := Ideal) k g a (ix2 ⟨256 + x.val, by omega⟩ h)) i

/-- The last 64 groups' sums of weighted values are the second half of those columns. -/
theorem pay14_at (k g a : FVec Ideal S512x1024 .f32) (i : Fin 64) (c : Fin 1024) :
    k0_pay14 (F := Ideal) k g a (ix2 i c) = k0_pay13 (F := Ideal) k g a (ix2 i ⟨1024 + c.val, by omega⟩) := by
  pointwise [k0_pay14]

/-- The pooled block: the first 64 groups' quotients, then those of the last 64. -/
theorem pay15_at (a c : FVec Ideal S64x1024 .f32) (b : FVec Ideal S64x2048 .f32) (i : Fin 128) (h : Fin 1024) :
    k0_pay15 (F := Ideal) a b c (ix2 i h)
      = (if _ : i.val < 64 then a (ix2 ⟨i.val, by omega⟩ h)
        else Ideal.div (c (ix2 ⟨i.val - 64, by omega⟩ h)) (b (ix2 ⟨i.val - 64, by omega⟩ ⟨h.val, by omega⟩)) : EReal) := by
  pointwise [k0_pay15]

/-- Row `r` of the block's group `i`. -/
def brow (i : Fin 128) (r : Fin 4) : Fin 512 := ⟨i.val * 4 + r.val, by omega⟩

/-- For real gate scores a block's pooled values are the plain ones. -/
theorem pooled_at (k g a : FVec Ideal S512x1024 .f32) (hs : ∀ i c, Spec.IsReal (g (ix2 i c) + a (ix2 i c)))
    (i : Fin 128) (c : Fin 1024) :
    k0_pay15 (F := Ideal) (k0_pay12 k g a) (k0_pay13 k g a) (k0_pay14 k g a) (ix2 i c)
      = Spec.pool (fun r => g (ix2 (brow i r) c) + a (ix2 (brow i r) c)) (fun r => k (ix2 (brow i r) c)) := by
  have hM : Spec.IsReal (blockMax g a) := by
    unfold blockMax
    rw [Spec.bits_bot]
    exact Spec.IsReal.fold_max _ ⟨(0, 0), Finset.mem_univ _⟩ fun x => hs x.1 x.2
  rw [pay15_at, ← Spec.pool_eq (fun r => hs (brow i r) c) hM]
  by_cases h : i.val < 64
  · rw [dif_pos h, pay12_at]
    simp only [pay11_lo, pay11_hi]
    rfl
  · rw [dif_neg h, pay14_at, pay13_at, pay13_at]
    have e : ∀ r : Fin 4, (⟨256 + ((i.val - 64) * 4 + r.val), by omega⟩ : Fin 512) = brow i r := fun r =>
      Fin.ext (by show 256 + ((i.val - 64) * 4 + r.val) = i.val * 4 + r.val; omega)
    simp only [e, pay11_lo, pay11_hi]

/-- The pooled values' sums of squares per head. -/
theorem pay16_at (a c : FVec Ideal S64x1024 .f32) (b : FVec Ideal S64x2048 .f32) (i : Fin 128) (h : Fin 16) :
    k0_pay16 (F := Ideal) a b c (ix2 i h)
      = ∑ x : Fin 1024, k0_pay15 (F := Ideal) a b c (ix2 i x) * k0_pay15 (F := Ideal) a b c (ix2 i x)
          * (if x.val / 64 = h.val then (1 : EReal) else 0) := by
  pointwise [k0_pay16]
  simp only [head_word]

/-- The normalized keys of a block, from its pooled values. -/
theorem pay1_at (a c : FVec Ideal S64x1024 .f32) (b : FVec Ideal S64x2048 .f32) (f : Fin 128 → Fin 1024 → EReal)
    (hf : ∀ i x, k0_pay15 (F := Ideal) a b c (ix2 i x) = f i x) (i : Fin 128) (x : Fin 1024) :
    k0_pay1 (F := Ideal) (k0_pay15 a b c) (k0_pay16 a b c) (iota .tc S16x1024 32 [0] iota_S16x1024_d0_w32)
        (iota .tc S16x1024 32 [1] iota_S16x1024_d1_w32) 64#32 k0_pay17 k0_pay18
        (Scalar.extui (Scalar.cmpi .sgt 64#32 0#32)) 0#32 (ix3 0 i x) = Spec.norm (f i) x := by
  pointwise [k0_pay1, k0_pay17, k0_pay18]
  simp only [head_word', pay16_at, hf]
  exact norm_of _ x

end Cert.KernelIdeal.Gen

end
-- ==== Proof.KernelScores.lean ====
/- The second call's block values read at an index: the masked scores, the rounds of striking out a row's maximum, and the
   comparison with the last round's maximum. -/
module

public import proofs.«01_k».proof.Proof.Gen.KernelIdeal.Skeleton
public import proofs.«01_k».proof.Proof.Spec
public import proofs.«01_k».proof.Proof.TopMath

@[expose] public section

set_option maxRecDepth 16384

noncomputable section

namespace Cert.KernelIdeal.Gen.Scores

open Idealize.ShloMosaic Idealize.SL.Sem Cert.Proof

/-- A block's rows' maxima, spread over the rows. -/
def maxV (v : FVec Ideal S1024x1024 .f32) : FVec Ideal S1024x1024 .f32 :=
  broadcastTo S1024x1024 (shapeCast S1024x1 (multiReduction .maximumf [1] S1024 v 0xFF800000#32 reduces_S1024x1024_S1024
    (.inl rfl) rfl) shapeCasts_S1024_S1024x1) broadcasts_S1024x1_S1024x1024

/-- One round on a block: minus infinity where the row's maximum is reached. -/
def strikeV (v : FVec Ideal S1024x1024 .f32) : FVec Ideal S1024x1024 .f32 :=
  select (cmpf .oge v (maxV v)) (broadcast S1024x1024 (Scalar.ofBits .f32 0xFF800000#32)) v

/-- A row's maximum, spread over the row again. -/
theorem maxV_at (v : FVec Ideal S1024x1024 .f32) (i h : Fin 1024) :
    maxV v (ix2 i h) = Top.rowMax (fun k => v (ix2 i k)) := by
  pointwise [maxV]
  rw [Spec.bits_bot]
  rfl

/-- A selection by "reaches", at an index. -/
theorem select_oge_at {s : Shape} (v w b : FVec Ideal s .f32) (i : s.Idx) :
    select (cmpf .oge v w) b v i = (if (w i : EReal) ≤ v i then b i else v i : EReal) := by
  show Scalar.select (BitVec.ofBool (decide ((w i : EReal) ≤ v i))) (b i) (v i) = _
  by_cases hl : (w i : EReal) ≤ v i <;> simp [Scalar.select, hl]

/-- One round strikes a row's largest entries. -/
theorem strikeV_at (v : FVec Ideal S1024x1024 .f32) (i h : Fin 1024) :
    strikeV v (ix2 i h) = Top.strike (fun k => v (ix2 i k)) h := by
  unfold strikeV
  rw [select_oge_at, maxV_at]
  have e : (broadcast S1024x1024 (Scalar.ofBits (F := Ideal) .f32 0xFF800000#32)) (ix2 i h) = (⊥ : EReal) := Spec.bits_bot
  rw [e]; rfl

/-- A row after a round on the block is the row struck. -/
theorem strikeV_rounds (v : FVec Ideal S1024x1024 .f32) (f : Fin 1024 → EReal) (n : ℕ) (i : Fin 1024)
    (h : ∀ k, v (ix2 i k) = Top.rounds f n k) (k : Fin 1024) : strikeV v (ix2 i k) = Top.rounds f (n + 1) k := by
  rw [strikeV_at, show (fun k => v (ix2 i k)) = Top.rounds f n from funext h]; rfl

section

variable (i : grid1.Coords) (q k : FVec Ideal S1x1024x1024 .bf16)

/-- The body's middle value is the scores after three rounds. -/
theorem pay4_eq : k1_pay4 (F := Ideal) i q k = strikeV (strikeV (strikeV (k1_pay3 i q k))) := rfl

/-- The last value, from the masked scores `s` and the causal bits `m`: the scores that reach the eighth maximum. -/
def lastV (m : IVec S1024x1024 1) (s : FVec Ideal S1024x1024 .f32) : IVec S1x1024x1024 32 :=
  shapeCast S1x1024x1024 (extui 32 (andi m (cmpf .oge s
    (maxV (strikeV (strikeV (strikeV (strikeV (strikeV (strikeV (strikeV s)))))))))) natLt_1_32)
    shapeCasts_S1024x1024_S1x1024x1024

/-- What the body stores, with its rounds named. -/
theorem pay1_eq : k1_pay1 (F := Ideal) (k1_pay2 i) (k1_pay3 (F := Ideal) i q k)
    (k1_pay4 (F := Ideal) i q k) (k1_pay5 (F := Ideal) i q k) (Scalar.ofBits .f32 0xFF800000#32) = lastV (k1_pay2 i) (k1_pay3 i q k) := rfl

end

/-- The last value at an index. -/
theorem lastV_at (m : IVec S1024x1024 1) (s : FVec Ideal S1024x1024 .f32) (i h : Fin 1024) :
    lastV m s (ix3 0 i h) = BitVec.setWidth 32 (IntOp.andi (m (ix2 i h))
      (BitVec.ofBool (decide (Top.rowMax (Top.rounds (fun k => s (ix2 i k)) 7) ≤ (s (ix2 i h) : EReal))))) := by
  have e : ∀ w : FVec Ideal S1024x1024 .f32, shapeCast S1x1024x1024 (extui 32 (andi m (cmpf .oge s (maxV w))) natLt_1_32)
      shapeCasts_S1024x1024_S1x1024x1024 (ix3 0 i h) = BitVec.setWidth 32 (IntOp.andi (m (ix2 i h))
        (BitVec.ofBool (decide (Top.rowMax (fun k => w (ix2 i k)) ≤ (s (ix2 i h) : EReal))))) := fun w => by
    rw [← maxV_at w i h]
    generalize maxV w = y
    pointwise
  unfold lastV
  refine (e _).trans ?_
  have h7 := strikeV_rounds _ _ 6 i <| strikeV_rounds _ _ 5 i <| strikeV_rounds _ _ 4 i <| strikeV_rounds _ _ 3 i <|
    strikeV_rounds _ _ 2 i <| strikeV_rounds _ _ 1 i <| strikeV_rounds s (fun k => s (ix2 i k)) 0 i fun _ => rfl
  rw [funext h7]

/-- The causal bit: group `h` is in the past of row `i` of block `b`. -/
theorem pay2_at (c : grid1.Coords) (i h : Fin 1024) (t : Fin 4096) (ht : t.val = (c 1).val * 1024 + i.val) :
    k1_pay2 c (ix2 i h) = BitVec.ofBool (decide (Spec.seen t h)) := by
  pointwise [k1_pay2]
  have hi := i.isLt; have hh := h.isLt; have hc : (c 1).val < 4 := (c 1).isLt
  have small : ∀ n : ℕ, n < 8192 → (BitVec.ofNat 32 n).toInt = n := fun n hn => by
    rw [BitVec.toInt_eq_toNat_of_lt] <;> simp only [BitVec.toNat_ofNat] <;> omega
  have e1 : IntOp.addi (IntOp.muli 4#32 (BitVec.ofNat 32 h.val)) 3#32 = BitVec.ofNat 32 (4 * h.val + 3) := by
    apply BitVec.eq_of_toNat_eq
    simp only [IntOp.addi, IntOp.muli, BitVec.toNat_add, BitVec.toNat_mul, BitVec.toNat_ofNat]; omega
  have e2 : IntOp.addi (Scalar.muli (BitVec.ofNat 32 (c 1).val) 1024#32) (BitVec.ofNat 32 i.val) = BitVec.ofNat 32 t.val := by
    apply BitVec.eq_of_toNat_eq
    simp only [IntOp.addi, Scalar.muli, IntOp.muli, BitVec.toNat_add, BitVec.toNat_mul, BitVec.toNat_ofNat, ht]; omega
  rw [e1, e2]
  have : (BitVec.ofNat 32 (4 * h.val + 3)).sle (BitVec.ofNat 32 t.val) = decide (Spec.seen t h) := by
    rw [BitVec.sle_eq_decide, small _ (by omega), small _ (by omega)]
    exact decide_eq_decide.2 (by unfold Spec.seen; omega)
  simp only [IntOp.cmpi, this]

/-- The masked scores of a block. -/
theorem pay3_at (c : grid1.Coords) (q k : FVec Ideal S1x1024x1024 .bf16) (i h : Fin 1024) (t : Fin 4096)
    (ht : t.val = (c 1).val * 1024 + i.val) :
    k1_pay3 (F := Ideal) c q k (ix2 i h)
      = if Spec.seen t h then (∑ d : Fin 1024, q (ix3 0 i d) * k (ix3 0 h d) : EReal) else ⊥ := by
  have e : k1_pay3 (F := Ideal) c q k (ix2 i h) = Scalar.select (k1_pay2 c (ix2 i h))
      (∑ d : Fin 1024, q (ix3 0 i d) * k (ix3 0 h d) : EReal) (Ideal.ofBits .f32 4286578688#32) := by
    pointwise [k1_pay3, k1_pay2]
  rw [e, pay2_at c i h t ht, Spec.bits_bot]
  by_cases hs : Spec.seen t h <;> simp [Scalar.select, hs]

/-- The second call's block at an index: on where the group is seen and its score reaches the eighth maximum. -/
theorem pay1_scores (c : grid1.Coords) (q k : FVec Ideal S1x1024x1024 .bf16) (i h : Fin 1024) (t : Fin 4096)
    (ht : t.val = (c 1).val * 1024 + i.val) (f : Fin 1024 → EReal)
    (hf : ∀ g, (if Spec.seen t g then (∑ d : Fin 1024, q (ix3 0 i d) * k (ix3 0 g d) : EReal) else ⊥) = f g) :
    k1_pay1 (F := Ideal) (k1_pay2 c) (k1_pay3 (F := Ideal) c q k)
        (k1_pay4 (F := Ideal) c q k) (k1_pay5 (F := Ideal) c q k) (Scalar.ofBits .f32 0xFF800000#32)
        (ix3 0 i h)
      = BitVec.setWidth 32 (BitVec.ofBool (decide (Spec.seen t h ∧ Top.rowMax (Top.rounds f 7) ≤ f h))) := by
  rw [pay1_eq, lastV_at, pay2_at c i h t ht]
  simp only [pay3_at c q k i _ t ht, hf]
  by_cases h₁ : Spec.seen t h <;> by_cases h₂ : Top.rowMax (Top.rounds f 7) ≤ f h <;> simp [h₁, h₂, IntOp.andi]

end Cert.KernelIdeal.Gen.Scores

end
-- ==== Proof.KernelValue.lean ====
/- What the kernel's two calls leave in their output arrays, and what its two results hold at the end. -/
module

public import proofs.«01_k».proof.Proof.Gen.KernelIdeal.Frame
public import proofs.«01_k».proof.Proof.KernelProj
public import proofs.«01_k».proof.Proof.KernelScores
public import proofs.«01_k».proof.Proof.RefValue
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.StableHlo Idealize.SL.Sem Cert.Proof
open Idealize.ShloMosaic.Pipeline (Dat)

/-! ### Where each grid point's blocks lie -/

/-- The first call's index maps at a grid point: the batch and the block of rows, the weights and the bias whole. -/
theorem idx0 : ∀ t : Fin cfg0.N,
    win0_0.index t = ![(grid0.coords t 0).val, (grid0.coords t 1).val, 0] ∧ win0_1.index t = ![0, 0] ∧
    win0_2.index t = ![0, 0] ∧ win0_3.index t = ![0, 0] ∧ win0_4.index t = ![0, 0] ∧
    win0_5.index t = ![(grid0.coords t 0).val, (grid0.coords t 1).val, 0] ∧
    win0_6.index t = ![(grid0.coords t 0).val, (grid0.coords t 1).val, 0] :=
  (by decide +kernel : ∀ t : Fin grid0.N, _)

/-- The second call's index maps at a grid point: a block of queries, all keys of the batch, the block's mask. -/
theorem idx1 : ∀ t : Fin cfg1.N,
    win1_0.index t = ![(grid1.coords t 0).val, (grid1.coords t 1).val, 0] ∧
    win1_1.index t = ![(grid1.coords t 0).val, 0, 0] ∧
    win1_2.index t = ![(grid1.coords t 0).val, (grid1.coords t 1).val, 0] :=
  (by decide +kernel : ∀ t : Fin grid1.N, _)

/-- The batch of a grid point of the first call. -/
def bat0 (t : Fin cfg0.N) : Fin 4 := grid0.coords t 0

/-- The block of groups of a grid point of the first call. -/
def gb0 (t : Fin cfg0.N) : Fin 8 := grid0.coords t 1

/-- The row of the input that row `i` of a grid point's block is. -/
def row0 (t : Fin cfg0.N) (i : Fin 512) : Fin 4096 :=
  ⟨(gb0 t).val * 512 + i.val, by have := (gb0 t).isLt; have := i.isLt; omega⟩

/-- The group that row `i` of a grid point's pooled block is. -/
def grp0 (t : Fin cfg0.N) (i : Fin 128) : Fin 1024 :=
  ⟨(gb0 t).val * 128 + i.val, by have := (gb0 t).isLt; have := i.isLt; omega⟩

/-- The batch of a grid point of the second call. -/
def bat1 (t : Fin cfg1.N) : Fin 4 := grid1.coords t 0

/-- The block of queries of a grid point of the second call. -/
def tb1 (t : Fin cfg1.N) : Fin 4 := grid1.coords t 1

/-- The query that row `i` of a grid point's block is. -/
def row1 (t : Fin cfg1.N) (i : Fin 1024) : Fin 4096 :=
  ⟨(tb1 t).val * 1024 + i.val, by have := (tb1 t).isLt; have := i.isLt; omega⟩

/-- Row `r` of group `i` of a block is row `r` of that group of the input. -/
theorem row0_brow (t : Fin cfg0.N) (i : Fin 128) (r : Fin 4) : row0 t (brow i r) = Spec.row (grp0 t i) r := by
  apply Fin.ext
  simp only [row0, brow, grp0, Spec.row]
  omega

/-! ### The pooled block of a grid point -/

/-- The pooled block of five input blocks at group `i`: the four rows' values pooled by their gates. -/
theorem pooled_block (x : FVec Ideal S1x512x2048 .f32) (wq wk wg : FVec Ideal S2048x1024 .bf16)
    (a : FVec Ideal S512x1024 .f32) (A : Spec.Args) (hA : A.Real) (t : Fin cfg0.N)
    (hx : ∀ i, (fun j => x (ix3 0 i j)) = A.x (bat0 t) (row0 t i)) (hk : (fun j d => wk (ix2 j d)) = A.wk)
    (hg : (fun j d => wg (ix2 j d)) = A.wg)
    (ha : ∀ (i : Fin 512) d, a (ix2 i d) = A.a ⟨i.val % 4, Nat.mod_lt _ (by omega)⟩ d) (i : Fin 128) (d : Fin 1024) :
    k0_pay15 (F := Ideal) (k0_pay22 x wq wk wg a) (k0_pay23 x wq wk wg a) (k0_pay24 x wq wk wg a) (ix2 i d) =
      Spec.pooled A (bat0 t) (grp0 t i) d := by
  have hK : ∀ i d, k0_pay8 (F := Ideal) (k0_pay2 x) wk (ix2 i d) =
      Spec.proj (A.x (bat0 t) (row0 t i)) A.wk d := fun i d =>
    (pay8_at x wk i d).trans (congrArg₂ (fun x w => Spec.proj x w d) (hx i) hk)
  have hG : ∀ i d, k0_pay9 (F := Ideal) (k0_pay2 x) wg (ix2 i d) =
      Spec.proj (A.x (bat0 t) (row0 t i)) A.wg d := fun i d =>
    (pay9_at x wg i d).trans (congrArg₂ (fun x w => Spec.proj x w d) (hx i) hg)
  unfold k0_pay22 k0_pay23 k0_pay24 k0_pay20 k0_pay21 k0_pay19
  frame_out
  refine (pooled_at (k0_pay8 (F := Ideal) (k0_pay2 x) wk) (k0_pay9 (F := Ideal) (k0_pay2 x) wg) a
    (fun i d => ?_) i d).trans ?_
  · rw [hG, ha]
    exact (Spec.proj_real (hA.x _ _) hA.wg d).add (hA.a _ d)
  · refine congrArg₂ Spec.pool (funext fun r => ?_) (funext fun r => ?_)
    · rw [hG, ha, row0_brow]
      refine congrArg (fun s => Spec.proj _ A.wg d + A.a s d) (Fin.ext ?_)
      have := r.isLt
      simp only [brow]
      omega
    · rw [hK, row0_brow]

/-- The second output's block of five input blocks: the pooled block, normalized head by head. -/
theorem keys_block (x : FVec Ideal S1x512x2048 .f32) (wq wk wg : FVec Ideal S2048x1024 .bf16)
    (a : FVec Ideal S512x1024 .f32) (f : Fin 128 → Fin 1024 → EReal)
    (hf : ∀ i d, k0_pay15 (F := Ideal) (k0_pay22 x wq wk wg a) (k0_pay23 x wq wk wg a) (k0_pay24 x wq wk wg a)
      (ix2 i d) = f i d) (i : Fin 128) (d : Fin 1024) :
    k0_pay1 (F := Ideal)
      (k0_pay15 (k0_pay22 x wq wk wg a) (k0_pay23 x wq wk wg a) (k0_pay24 x wq wk wg a))
      (k0_pay16 (k0_pay22 x wq wk wg a) (k0_pay23 x wq wk wg a) (k0_pay24 x wq wk wg a))
      (iota .tc S16x1024 32 [0] iota_S16x1024_d0_w32) (iota .tc S16x1024 32 [1] iota_S16x1024_d1_w32) 64#32
      k0_pay17 k0_pay18 (Scalar.extui (Scalar.cmpi .sgt 64#32 0#32)) 0#32 (ix3 0 i d) = Spec.norm (f i) d :=
  pay1_at _ _ _ f hf i d

section Calls

variable (V : (c : Dev nD) → (b : Ref sig .tc) → Buf (Elt Ideal) ((c : Thread nD τ).loc b)) (c : Dev nD)

/-! ### The blocks read at an index -/

/-- A block of inputs is the grid point's rows of the input. -/
theorem x_at (t : Fin cfg0.N) (i : Fin 512) (j : Fin 2048) :
    iblk0 V c 0 t (ix3 0 i j) = V c main_arg0 (ix3 (bat0 t) (row0 t i) j) := by
  blk_ext [iblk0, idx0 t, bat0, gb0, row0]

/-- The query weights come whole, -/
theorem wq_at (t : Fin cfg0.N) (j : Fin 2048) (d : Fin 1024) :
    iblk0 V c 1 t (ix2 j d) = V c main_v0 (ix2 j d) := by
  blk_ext [iblk0, idx0 t]

/-- the key weights, -/
theorem wk_at (t : Fin cfg0.N) (j : Fin 2048) (d : Fin 1024) :
    iblk0 V c 2 t (ix2 j d) = V c main_v1 (ix2 j d) := by
  blk_ext [iblk0, idx0 t]

/-- the gate weights, -/
theorem wg_at (t : Fin cfg0.N) (j : Fin 2048) (d : Fin 1024) :
    iblk0 V c 3 t (ix2 j d) = V c main_v2 (ix2 j d) := by
  blk_ext [iblk0, idx0 t]

/-- and the tiled bias. -/
theorem bias_at (t : Fin cfg0.N) (i : Fin 512) (d : Fin 1024) :
    iblk0 V c 4 t (ix2 i d) = V c main_v6 (ix2 i d) := by
  blk_ext [iblk0, idx0 t]

/-- A block of queries is the grid point's rows of the queries. -/
theorem q_at (t : Fin cfg1.N) (i d : Fin 1024) :
    iblk1 V c 0 t (ix3 0 i d) = V c main_v7_0 (ix3 (bat1 t) (row1 t i) d) := by
  blk_ext [iblk1, idx1 t, bat1, tb1, row1]

/-- A block of keys is all keys of the grid point's batch. -/
theorem k_at (t : Fin cfg1.N) (g d : Fin 1024) :
    iblk1 V c 1 t (ix3 0 g d) = V c main_v7_1 (ix3 (bat1 t) g d) := by
  blk_ext [iblk1, idx1 t, bat1]

/-! ### Where a block's element lies in its array -/

/-- A block's query lies at the grid point's row of the first output, -/
theorem emb_q (t : Fin cfg0.N) (i : Fin 512) (d : Fin 1024) :
    ((View.whole main_v7_0).slice (win0_5.rect t)).emb (ix3 0 i d) = ix3 (bat0 t) (row0 t i) d := by
  blk_ext [idx0 t, bat0, gb0, row0]

/-- its key at the grid point's group of the second, -/
theorem emb_k (t : Fin cfg0.N) (i : Fin 128) (d : Fin 1024) :
    ((View.whole main_v7_1).slice (win0_6.rect t)).emb (ix3 0 i d) = ix3 (bat0 t) (grp0 t i) d := by
  blk_ext [idx0 t, bat0, gb0, grp0]

/-- and its mask at the grid point's row of the mask. -/
theorem emb_m (t : Fin cfg1.N) (i h : Fin 1024) :
    ((View.whole main_v8).slice (win1_2.rect t)).emb (ix3 0 i h) = ix3 (bat1 t) (row1 t i) h := by
  blk_ext [idx1 t, bat1, tb1, row1]

/-! ### The calls' output arrays -/

variable (A : Spec.Args)

/-- The first call leaves every query, normalized head by head, in its first output. -/
theorem queries_end (hx : ∀ b t j, V c main_arg0 (ix3 b t j) = A.x b t j)
    (hq : ∀ j d, V c main_v0 (ix2 j d) = A.wq j d) :
    (dat0 V c).arrAt 5 cfg0.N = fun i => Spec.query A (i 0) (i 1) (i 2) := by
  refine (dat0 V c).arrAt_eq_of_covers 5 _ (by decide +kernel) fun t _ y => ?_
  blk_simp
  rw [after0_5]; frame_out
  obtain ⟨i, d, rfl⟩ : ∃ (i : Fin 512) (d : Fin 1024), y = ix3 0 i d :=
    ⟨y 1, y 2, funext fun a => by fin_cases a <;> first | rfl | exact Subsingleton.elim (α := Fin 1) _ _⟩
  rw [emb_q]
  refine (pay7_at _ _ i d).trans ?_
  have h1 : (fun j => iblk0 V c 0 t (ix3 0 i j)) = A.x (bat0 t) (row0 t i) :=
    funext fun j => (x_at V c t i j).trans (hx _ _ _)
  have h2 : (fun j d => iblk0 V c 1 t (ix2 j d)) = A.wq :=
    funext fun j => funext fun d => (wq_at V c t j d).trans (hq _ _)
  exact congrArg₂ (fun x w => Spec.norm (Spec.proj x w) d) h1 h2

/-- The first call leaves every group's key, pooled and normalized head by head, in its second output. -/
theorem keys_end (hA : A.Real) (hx : ∀ b t j, V c main_arg0 (ix3 b t j) = A.x b t j)
    (hk : ∀ j d, V c main_v1 (ix2 j d) = A.wk j d) (hg : ∀ j d, V c main_v2 (ix2 j d) = A.wg j d)
    (ha : ∀ (i : Fin 512) d, V c main_v6 (ix2 i d) = A.a ⟨i.val % 4, Nat.mod_lt _ (by omega)⟩ d) :
    (dat0 V c).arrAt 6 cfg0.N = fun i => Spec.key A (i 0) (i 1) (i 2) := by
  refine (dat0 V c).arrAt_eq_of_covers 6 _ (by decide +kernel) fun t _ y => ?_
  blk_simp
  rw [after0_6]; frame_out
  obtain ⟨i, d, rfl⟩ : ∃ (i : Fin 128) (d : Fin 1024), y = ix3 0 i d :=
    ⟨y 1, y 2, funext fun a => by fin_cases a <;> first | rfl | exact Subsingleton.elim (α := Fin 1) _ _⟩
  rw [emb_k]
  exact keys_block _ _ _ _ _ (fun i => Spec.pooled A (bat0 t) (grp0 t i))
    (pooled_block _ _ _ _ _ A hA t (fun i => funext fun j => (x_at V c t i j).trans (hx _ _ _))
      (funext fun j => funext fun d => (wk_at V c t j d).trans (hk _ _))
      (funext fun j => funext fun d => (wg_at V c t j d).trans (hg _ _))
      (fun i d => (bias_at V c t i d).trans (ha i d))) i d

/-- Given the queries and the keys, the second call leaves the mask of the best groups of every query, as words. -/
theorem mask_end (hq : ∀ b t d, V c main_v7_0 (ix3 b t d) = Spec.query A b t d)
    (hk : ∀ b g d, V c main_v7_1 (ix3 b g d) = Spec.key A b g d) :
    (dat1 V c).arrAt 2 cfg1.N = fun i => BitVec.setWidth 32 (Ref.bit A (i 0) (i 1) (i 2)) := by
  refine (dat1 V c).arrAt_eq_of_covers 2 _ (by decide +kernel) fun t _ y => ?_
  blk_simp
  rw [after1_2]; frame_out
  obtain ⟨i, h, rfl⟩ : ∃ (i h : Fin 1024), y = ix3 0 i h :=
    ⟨y 1, y 2, funext fun a => by fin_cases a <;> first | rfl | exact Subsingleton.elim (α := Fin 1) _ _⟩
  rw [emb_m]
  refine Scores.pay1_scores (grid1.coords t) _ _ i h (row1 t i) rfl (Spec.masked A (bat1 t) (row1 t i)) fun g => ?_
  refine if_congr Iff.rfl (Finset.sum_congr rfl fun d _ => ?_) rfl
  exact congrArg₂ (fun a b : EReal => a * b) ((q_at V c t i d).trans (hq _ _ _)) ((k_at V c t g d).trans (hk _ _ _))

end Calls

section Host

variable (m : (ℓ : Loc nD τ sig) → Buf (Elt Ideal) ℓ) (ρ : Dev nD → PrngReg) (c : Dev nD)

/-- The query weights, cast, are the argument; -/
theorem W1_v0 : W1 m ρ c (Proc.devRef .tc main_v0) = m ((c : Thread nD τ).loc main_arg1) := by
  unfold_abbrev_sides
  after_results
  rfl

/-- so are the key weights -/
theorem W1_v1 : W1 m ρ c (Proc.devRef .tc main_v1) = m ((c : Thread nD τ).loc main_arg2) := by
  unfold_abbrev_sides
  after_results
  rfl

/-- and the gate weights. -/
theorem W1_v2 : W1 m ρ c (Proc.devRef .tc main_v2) = m ((c : Thread nD τ).loc main_arg3) := by
  unfold_abbrev_sides
  after_results
  rfl

/-- The tiled bias repeats the four rows of the argument, its columns in a line. -/
theorem W1_v6 (i : Fin 512) (d : Fin 1024) : W1 m ρ c (Proc.devRef .tc main_v6) (ix2 i d) =
    m ((c : Thread nD τ).loc main_arg4) (ix3 ⟨i.val % 4, Nat.mod_lt _ (by omega)⟩
      ⟨d.val / 64, by have := d.isLt; omega⟩ ⟨d.val % 64, Nat.mod_lt _ (by omega)⟩) := by
  unfold_abbrev_sides
  after_results
  pointwise

/-- The first result is true where the second call's word is not zero. -/
theorem W4_v11 : W4 m ρ c (Proc.devRef .tc main_v11) = fun i =>
    IntOp.cmpi .ne (W3 m ρ c (Proc.devRef .tc main_v8) i) 0#32 := by
  unfold_abbrev_sides
  after_results
  rfl

/-- The second result is the reference's group ends. -/
theorem W4_v18 : W4 m ρ c (Proc.devRef .tc main_v18) = Ref.endsT := by
  unfold_abbrev_sides
  after_results
  rfl

/-- The arguments of core `c`, read as the mathematics reads them. -/
abbrev argsOf : Spec.Args :=
  Ref.args (m ((c : Thread nD τ).loc main_arg0)) (m ((c : Thread nD τ).loc main_arg1))
    (m ((c : Thread nD τ).loc main_arg2)) (m ((c : Thread nD τ).loc main_arg3)) (m ((c : Thread nD τ).loc main_arg4))

/-- The inputs are the argument. -/
theorem W1_x : W1 m ρ c (Proc.devRef .tc main_arg0) = m ((c : Thread nD τ).loc main_arg0) :=
  W1_args m ρ c main_arg0 (by decide)

/-- What the second call reads as queries. -/
theorem W2_queries (b : Fin 4) (t : Fin 4096) (d : Fin 1024) :
    W2 m ρ c (Proc.devRef .tc main_v7_0) (ix3 b t d) = Spec.query (argsOf m c) b t d :=
  congrFun ((W2_arr m ρ c 5).trans (queries_end (V1 m ρ) c (argsOf m c)
    (fun b t j => congrFun (W1_x m ρ c) (ix3 b t j)) (fun j d => congrFun (W1_v0 m ρ c) (ix2 j d)))) (ix3 b t d)

/-- What the second call reads as keys. -/
theorem W2_keys (hA : (argsOf m c).Real) (b : Fin 4) (g d : Fin 1024) :
    W2 m ρ c (Proc.devRef .tc main_v7_1) (ix3 b g d) = Spec.key (argsOf m c) b g d :=
  congrFun ((W2_arr m ρ c 6).trans (keys_end (V1 m ρ) c (argsOf m c) hA
    (fun b t j => congrFun (W1_x m ρ c) (ix3 b t j)) (fun j d => congrFun (W1_v1 m ρ c) (ix2 j d))
    (fun j d => congrFun (W1_v2 m ρ c) (ix2 j d)) (fun i d => W1_v6 m ρ c i d))) (ix3 b g d)

/-- A bit widened to a word is not zero exactly where the bit is set. -/
theorem ne_zero_word : ∀ b : BitVec 1, IntOp.cmpi .ne (BitVec.setWidth 32 b) 0#32 = b := by decide

/-- The kernel's first result: the mask of the best groups of every query. -/
theorem mask_result (hA : (argsOf m c).Real) : W4 m ρ c (Proc.devRef .tc main_v11) =
    fun i => Ref.bit (argsOf m c) (i 0) (i 1) (i 2) := by
  rw [W4_v11]
  funext i
  have h := congrFun ((W3_arr m ρ c 2).trans (mask_end (V2 m ρ) c (argsOf m c) (W2_queries m ρ c)
    (W2_keys m ρ c hA))) i
  exact (congrArg (fun w => IntOp.cmpi .ne w 0#32) h).trans (ne_zero_word _)

end Host

end Cert.KernelIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_no_tie
public import proofs.«01_k».proof.Proof.Gen.ReferenceIdeal.Run
public import proofs.«01_k».proof.Proof.RefTerms
public import proofs.«01_k».proof.Proof.RefValue
public import proofs.«01_k».proof.Proof.KernelRun
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The reference runs, leaves its arguments alone and ends with every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Where the precondition holds of the kernel's arguments, its first result is the reference's first result on them. -/
theorem mask_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_finite_and_no_tie (hPre_finite_and_no_tie := Cert.Pre_finite_and_no_tie.Gen.facts) m)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_main_v93 m' c
      = Cert.KernelIdeal.Gen.W4 m g c (Proc.devRef .tc Cert.KernelIdeal.main_v11) := by
  obtain ⟨px, pg, pa, pn⟩ := hpre c
  have hA := Ref.args_real _ _ _ _ _ (congrFun px) (congrFun pg) (congrFun pa)
  rw [Ref.res_eq, h0, h1, h2, h3, h4, Cert.KernelIdeal.Gen.mask_result m g c hA]
  funext i
  obtain ⟨b, t, k, rfl⟩ : ∃ (b : Fin 4) (t : Fin 4096) (k : Fin 1024), i = ix3 b t k :=
    ⟨i 0, i 1, i 2, funext fun a => by fin_cases a <;> rfl⟩
  exact Ref.mask_value _ _ _ _ _ hA (congrFun pn) b t k

/-- Under `finite_and_no_tie` the ideal kernel and the reference end with equal results. -/
theorem algebraic : Cert.algebraic_KernelIdeal_ReferenceIdeal_pre_finite_and_no_tie
    (hKernelIdeal := Cert.KernelIdeal.Gen.facts) (hReferenceIdeal := Cert.ReferenceIdeal.Gen.facts)
    (hPre_finite_and_no_tie := Cert.Pre_finite_and_no_tie.Gen.facts) := by
  intro m g m' g' hpre hagree
  refine ⟨fun c => Cert.KernelIdeal.Gen.W4 m g c (Proc.devRef .tc Cert.KernelIdeal.main_v11),
    fun c => Cert.KernelIdeal.Gen.W4 m g c (Proc.devRef .tc Cert.KernelIdeal.main_v18),
    Cert.KernelIdeal.Gen.run_results m g, ?_⟩
  refine (θ_run Cert.ReferenceIdeal.defs _ _).mono (fun r h c => ?_)
    (Cert.ReferenceIdeal.Value.run (F := Ideal) m' g')
  obtain ⟨h0, h1, h2, h3, h4⟩ := hagree c
  obtain ⟨e0, e1, er⟩ := h c
  exact ⟨e0.trans (mask_eq m g m' hpre c h0 h1 h2 h3 h4),
    e1.trans (Cert.KernelIdeal.Gen.W4_v18 m g c).symm, er⟩

/-- Every claim of this certificate. -/
theorem claim : Cert.Claim :=
  ⟨Cert.Kernel.Gen.facts, Cert.KernelIdeal.Gen.facts, Cert.ReferenceIdeal.Gen.facts, Cert.Pre_finite_and_no_tie.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, algebraic⟩

end Cert.Proof

end
